-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateReferenceIdeal (m : (ℓ : Loc Cert.RotateReferenceIdeal.nD Cert.RotateReferenceIdeal.τ Cert.RotateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateReferenceIdeal [hRotateReferenceIdeal : Cert.RotateReferenceIdeal.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1))
      ∧ r.2.sem = fun _ => 0)

def preserves_Kernel_KernelIdeal : Prop :=
  IdealRules.bf16_pair.BufferStatement Cert.KernelIdeal.S4x64x2x128 Cert.KernelIdeal.S4x64x1x128
  ∧ IdealRules.bf16_pair.PackStatement Cert.KernelIdeal.S64x128
  ∧ IdealRules.bf16_pair.Statement Cert.KernelIdeal.S1x64x2x128 Cert.KernelIdeal.S1x64x1x128
  ∧ IdealRules.bf16_pair.Statement Cert.KernelIdeal.S1x1x2x128 Cert.KernelIdeal.S1x1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Rotate_RotateIdeal : Prop :=
  IdealRules.bf16_pair.BufferStatement Cert.RotateIdeal.S64x2x4096 Cert.RotateIdeal.S64x1x4096
  ∧ IdealRules.bf16_pair.BufferStatement Cert.RotateIdeal.S8x2x4096 Cert.RotateIdeal.S8x1x4096
  ∧ IdealRules.bf16_pair.Statement Cert.RotateIdeal.S16x128 Cert.RotateIdeal.S8x128
  ∧ IdealRules.bf16_pair.Statement Cert.RotateIdeal.S8x2x128 Cert.RotateIdeal.S8x1x128

def algebraic_RotateIdeal_RotateReferenceIdeal [hRotateIdeal : Cert.RotateIdeal.Facts] [hRotateReferenceIdeal : Cert.RotateReferenceIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateReferenceIdeal.nD Cert.RotateReferenceIdeal.τ Cert.RotateReferenceIdeal.sig) → Buf (Elt Ideal) ℓ) (g' : Dev Cert.RotateReferenceIdeal.nD → PrngReg), Pre_RotateIdeal m →
    (∀ c : Dev Cert.RotateIdeal.nD,
      m' ((c.tc : Thread Cert.RotateReferenceIdeal.nD Cert.RotateReferenceIdeal.τ).loc Cert.RotateReferenceIdeal.main_arg0) = m ((c.tc : Thread Cert.RotateIdeal.nD Cert.RotateIdeal.τ).loc Cert.RotateIdeal.main_arg0)
      ∧ m' ((c.tc : Thread Cert.RotateReferenceIdeal.nD Cert.RotateReferenceIdeal.τ).loc Cert.RotateReferenceIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v147_0)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v147_0) = v0 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateReferenceIdeal.defs (F := Ideal)) (onTc (τ := Cert.RotateReferenceIdeal.τ) (Cert.RotateReferenceIdeal.main (F := Ideal))) ⟨m', fun _ => 0, g'⟩ (fun r => ∀ c : Dev Cert.RotateReferenceIdeal.nD,
          r.2.mem ((c.tc : Thread Cert.RotateReferenceIdeal.nD Cert.RotateReferenceIdeal.τ).loc Cert.RotateReferenceIdeal.main_v338) = v0 c
          ∧ r.2.mem ((c.tc : Thread Cert.RotateReferenceIdeal.nD Cert.RotateReferenceIdeal.τ).loc Cert.RotateReferenceIdeal.main_arg0) = m' ((c.tc : Thread Cert.RotateReferenceIdeal.nD Cert.RotateReferenceIdeal.τ).loc Cert.RotateReferenceIdeal.main_arg0)
          ∧ r.2.mem ((c.tc : Thread Cert.RotateReferenceIdeal.nD Cert.RotateReferenceIdeal.τ).loc Cert.RotateReferenceIdeal.main_arg1) = m' ((c.tc : Thread Cert.RotateReferenceIdeal.nD Cert.RotateReferenceIdeal.τ).loc Cert.RotateReferenceIdeal.main_arg1))

def Claim : Prop :=
  ∃ (hKernel : Cert.Kernel.Facts) (hKernelIdeal : Cert.KernelIdeal.Facts) (hReferenceIdeal : Cert.ReferenceIdeal.Facts) (hRotate : Cert.Rotate.Facts) (hRotateIdeal : Cert.RotateIdeal.Facts) (hRotateReferenceIdeal : Cert.RotateReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Rotate (hRotate := hRotate)
    ∧ quiescent_RotateIdeal (hRotateIdeal := hRotateIdeal)
    ∧ quiescent_RotateReferenceIdeal (hRotateReferenceIdeal := hRotateReferenceIdeal)
    ∧ preserves_Kernel_KernelIdeal
    ∧ algebraic_KernelIdeal_ReferenceIdeal (hKernelIdeal := hKernelIdeal) (hReferenceIdeal := hReferenceIdeal)
    ∧ preserves_Rotate_RotateIdeal
    ∧ algebraic_RotateIdeal_RotateReferenceIdeal (hRotateIdeal := hRotateIdeal) (hRotateReferenceIdeal := hRotateReferenceIdeal)
-- ==== Kernel.lean ====
abbrev S64x4096 : Shape := ⟨2, ![64, 4096]⟩
abbrev S14336x1024 : Shape := ⟨2, ![14336, 1024]⟩
abbrev S14336x64 : Shape := ⟨2, ![14336, 64]⟩
abbrev S128x14336 : Shape := ⟨2, ![128, 14336]⟩
abbrev S512x1024 : Shape := ⟨2, ![512, 1024]⟩
abbrev S512x64 : Shape := ⟨2, ![512, 64]⟩
abbrev S128x512 : Shape := ⟨2, ![128, 512]⟩
abbrev S4x64x128 : Shape := ⟨3, ![4, 64, 128]⟩
abbrev S128x64 : Shape := ⟨2, ![128, 64]⟩
abbrev S64x128 : Shape := ⟨2, ![64, 128]⟩
abbrev S1x64x128 : Shape := ⟨3, ![1, 64, 128]⟩
abbrev S8x8x128 : Shape := ⟨3, ![8, 8, 128]⟩
abbrev S128x128 : Shape := ⟨2, ![128, 128]⟩
abbrev S32x128 : Shape := ⟨2, ![32, 128]⟩
abbrev S8x128 : Shape := ⟨2, ![8, 128]⟩
abbrev S1x1x128 : Shape := ⟨3, ![1, 1, 128]⟩
abbrev S1x128 : Shape := ⟨2, ![1, 128]⟩
abbrev S2x128 : Shape := ⟨2, ![2, 128]⟩
abbrev S16x128 : Shape := ⟨2, ![16, 128]⟩
abbrev S8x1x128 : Shape := ⟨3, ![8, 1, 128]⟩
abbrev S256x128 : Shape := ⟨2, ![256, 128]⟩
abbrev S256x256 : Shape := ⟨2, ![256, 256]⟩
abbrev S64x256 : Shape := ⟨2, ![64, 256]⟩
abbrev S128x256 : Shape := ⟨2, ![128, 256]⟩

abbrev nBuf : Space → Nat
  | .hbm => 5
  | .vmem => 11
  | .smem => 0
  | _ => 0

abbrev bufTy : (tb : Table) → Fin (tcTables nBuf tb) → BufTy
  | .hbm, ⟨0, _⟩ => ⟨S64x4096, .i32⟩
  | .hbm, ⟨1, _⟩ => ⟨S14336x1024, .i8⟩
  | .hbm, ⟨2, _⟩ => ⟨S14336x64, .bf16⟩
  | .hbm, ⟨3, _⟩ => ⟨S14336x64, .bf16⟩
  | .hbm, ⟨4, _⟩ => ⟨S128x14336, .bf16⟩
  | .local _ .vmem, ⟨0, _⟩ => ⟨S64x4096, .i32⟩
  | .local _ .vmem, ⟨1, _⟩ => ⟨S512x1024, .i8⟩
  | .local _ .vmem, ⟨2, _⟩ => ⟨S512x1024, .i8⟩
  | .local _ .vmem, ⟨3, _⟩ => ⟨S512x64, .bf16⟩
  | .local _ .vmem, ⟨4, _⟩ => ⟨S512x64, .bf16⟩
  | .local _ .vmem, ⟨5, _⟩ => ⟨S512x64, .bf16⟩
  | .local _ .vmem, ⟨6, _⟩ => ⟨S512x64, .bf16⟩
  | .local _ .vmem, ⟨7, _⟩ => ⟨S128x512, .bf16⟩
  | .local _ .vmem, ⟨8, _⟩ => ⟨S128x512, .bf16⟩
  | .local _ .vmem, ⟨9, _⟩ => ⟨S4x64x128, .i32⟩
  | .local _ .vmem, ⟨10, _⟩ => ⟨S4x64x128, .i32⟩
  | _, _ => ⟨S64x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S4x64x2x128 : Shape := ⟨4, ![4, 64, 2, 128]⟩
abbrev S4x64x1x128 : Shape := ⟨4, ![4, 64, 1, 128]⟩
abbrev S1x64x2x128 : Shape := ⟨4, ![1, 64, 2, 128]⟩
abbrev S1x64x1x128 : Shape := ⟨4, ![1, 64, 1, 128]⟩
abbrev S1x1x2x128 : Shape := ⟨4, ![1, 1, 2, 128]⟩
abbrev S1x1x1x128 : Shape := ⟨4, ![1, 1, 1, 128]⟩
  | .local _ .vmem, ⟨9, _⟩ => ⟨S4x64x2x128, .bf16⟩
  | .local _ .vmem, ⟨10, _⟩ => ⟨S4x64x2x128, .bf16⟩
variable {F : FTy → Type} [FloatOps F]
-- ==== ReferenceIdeal.lean ====
abbrev S64x4096 : Shape := ⟨2, ![64, 4096]⟩
abbrev S14336x1024 : Shape := ⟨2, ![14336, 1024]⟩
abbrev S14336x64 : Shape := ⟨2, ![14336, 64]⟩
abbrev S64x4096x2 : Shape := ⟨3, ![64, 4096, 2]⟩
abbrev S64x2x4096 : Shape := ⟨3, ![64, 2, 4096]⟩
abbrev S128x4096 : Shape := ⟨2, ![128, 4096]⟩
abbrev S128x32x2x64 : Shape := ⟨4, ![128, 32, 2, 64]⟩
abbrev S128x32x64x2 : Shape := ⟨4, ![128, 32, 64, 2]⟩
abbrev S14336x64x1 : Shape := ⟨3, ![14336, 64, 1]⟩
abbrev S_ : Shape := ⟨0, ![]⟩
abbrev S128x14336 : Shape := ⟨2, ![128, 14336]⟩
abbrev S14336x64x16 : Shape := ⟨3, ![14336, 64, 16]⟩
abbrev S128x1024 : Shape := ⟨2, ![128, 1024]⟩

abbrev nBuf : Space → Nat
  | .hbm => 80
  | .vmem => 0
  | .smem => 0
  | _ => 0

abbrev bufTy : (tb : Table) → Fin (tcTables nBuf tb) → BufTy
  | .hbm, ⟨0, _⟩ => ⟨S64x4096, .i32⟩
  | .hbm, ⟨1, _⟩ => ⟨S14336x1024, .i8⟩
  | .hbm, ⟨2, _⟩ => ⟨S14336x64, .bf16⟩
  | .hbm, ⟨3, _⟩ => ⟨S14336x64, .bf16⟩
  | .hbm, ⟨4, _⟩ => ⟨S64x4096x2, .bf16⟩
  | .hbm, ⟨5, _⟩ => ⟨S64x2x4096, .bf16⟩
  | .hbm, ⟨6, _⟩ => ⟨S128x4096, .bf16⟩
  | .hbm, ⟨7, _⟩ => ⟨S128x32x2x64, .bf16⟩
  | .hbm, ⟨8, _⟩ => ⟨S128x32x64x2, .bf16⟩
  | .hbm, ⟨9, _⟩ => ⟨S128x4096, .bf16⟩
  | .hbm, ⟨10, _⟩ => ⟨S14336x64x1, .bf16⟩
  | .hbm, ⟨11, _⟩ => ⟨S14336x64x1, .bf16⟩
  | .hbm, ⟨12, _⟩ => ⟨S14336x1024, .i32⟩
  | .hbm, ⟨13, _⟩ => ⟨S_, .f32⟩
  | .hbm, ⟨14, _⟩ => ⟨S128x14336, .f32⟩
  | .hbm, ⟨15, _⟩ => ⟨S_, .i32⟩
  | .hbm, ⟨16, _⟩ => ⟨S14336x1024, .i32⟩
  | .hbm, ⟨17, _⟩ => ⟨S14336x1024, .i32⟩
  | .hbm, ⟨18, _⟩ => ⟨S_, .i32⟩
  | .hbm, ⟨19, _⟩ => ⟨S14336x1024, .i32⟩
  | .hbm, ⟨20, _⟩ => ⟨S14336x1024, .i32⟩
  | .hbm, ⟨21, _⟩ => ⟨S14336x1024, .bf16⟩
  | .hbm, ⟨22, _⟩ => ⟨S14336x64x16, .bf16⟩
  | .hbm, ⟨23, _⟩ => ⟨S14336x64x16, .bf16⟩
  | .hbm, ⟨24, _⟩ => ⟨S14336x64x16, .bf16⟩
  | .hbm, ⟨25, _⟩ => ⟨S14336x64x16, .bf16⟩
  | .hbm, ⟨26, _⟩ => ⟨S14336x64x16, .bf16⟩
  | .hbm, ⟨27, _⟩ => ⟨S14336x1024, .bf16⟩
  | .hbm, ⟨28, _⟩ => ⟨S128x1024, .bf16⟩
  | .hbm, ⟨29, _⟩ => ⟨S128x14336, .f32⟩
  | .hbm, ⟨30, _⟩ => ⟨S128x14336, .f32⟩
  | .hbm, ⟨31, _⟩ => ⟨S_, .i32⟩
  | .hbm, ⟨32, _⟩ => ⟨S14336x1024, .i32⟩
  | .hbm, ⟨33, _⟩ => ⟨S14336x1024, .i32⟩
  | .hbm, ⟨34, _⟩ => ⟨S_, .i32⟩
  | .hbm, ⟨35, _⟩ => ⟨S14336x1024, .i32⟩
  | .hbm, ⟨36, _⟩ => ⟨S14336x1024, .i32⟩
  | .hbm, ⟨37, _⟩ => ⟨S14336x1024, .bf16⟩
  | .hbm, ⟨38, _⟩ => ⟨S14336x64x16, .bf16⟩
  | .hbm, ⟨39, _⟩ => ⟨S14336x64x16, .bf16⟩
  | .hbm, ⟨40, _⟩ => ⟨S14336x64x16, .bf16⟩
  | .hbm, ⟨41, _⟩ => ⟨S14336x64x16, .bf16⟩
  | .hbm, ⟨42, _⟩ => ⟨S14336x64x16, .bf16⟩
  | .hbm, ⟨43, _⟩ => ⟨S14336x1024, .bf16⟩
  | .hbm, ⟨44, _⟩ => ⟨S128x1024, .bf16⟩
  | .hbm, ⟨45, _⟩ => ⟨S128x14336, .f32⟩
  | .hbm, ⟨46, _⟩ => ⟨S128x14336, .f32⟩
  | .hbm, ⟨47, _⟩ => ⟨S_, .i32⟩
  | .hbm, ⟨48, _⟩ => ⟨S14336x1024, .i32⟩
  | .hbm, ⟨49, _⟩ => ⟨S14336x1024, .i32⟩
  | .hbm, ⟨50, _⟩ => ⟨S_, .i32⟩
  | .hbm, ⟨51, _⟩ => ⟨S14336x1024, .i32⟩
  | .hbm, ⟨52, _⟩ => ⟨S14336x1024, .i32⟩
  | .hbm, ⟨53, _⟩ => ⟨S14336x1024, .bf16⟩
  | .hbm, ⟨54, _⟩ => ⟨S14336x64x16, .bf16⟩
  | .hbm, ⟨55, _⟩ => ⟨S14336x64x16, .bf16⟩
  | .hbm, ⟨56, _⟩ => ⟨S14336x64x16, .bf16⟩
  | .hbm, ⟨57, _⟩ => ⟨S14336x64x16, .bf16⟩
  | .hbm, ⟨58, _⟩ => ⟨S14336x64x16, .bf16⟩
  | .hbm, ⟨59, _⟩ => ⟨S14336x1024, .bf16⟩
  | .hbm, ⟨60, _⟩ => ⟨S128x1024, .bf16⟩
  | .hbm, ⟨61, _⟩ => ⟨S128x14336, .f32⟩
  | .hbm, ⟨62, _⟩ => ⟨S128x14336, .f32⟩
  | .hbm, ⟨63, _⟩ => ⟨S_, .i32⟩
  | .hbm, ⟨64, _⟩ => ⟨S14336x1024, .i32⟩
  | .hbm, ⟨65, _⟩ => ⟨S14336x1024, .i32⟩
  | .hbm, ⟨66, _⟩ => ⟨S_, .i32⟩
  | .hbm, ⟨67, _⟩ => ⟨S14336x1024, .i32⟩
  | .hbm, ⟨68, _⟩ => ⟨S14336x1024, .i32⟩
  | .hbm, ⟨69, _⟩ => ⟨S14336x1024, .bf16⟩
  | .hbm, ⟨70, _⟩ => ⟨S14336x64x16, .bf16⟩
  | .hbm, ⟨71, _⟩ => ⟨S14336x64x16, .bf16⟩
  | .hbm, ⟨72, _⟩ => ⟨S14336x64x16, .bf16⟩
  | .hbm, ⟨73, _⟩ => ⟨S14336x64x16, .bf16⟩
  | .hbm, ⟨74, _⟩ => ⟨S14336x64x16, .bf16⟩
  | .hbm, ⟨75, _⟩ => ⟨S14336x1024, .bf16⟩
  | .hbm, ⟨76, _⟩ => ⟨S128x1024, .bf16⟩
  | .hbm, ⟨77, _⟩ => ⟨S128x14336, .f32⟩
  | .hbm, ⟨78, _⟩ => ⟨S128x14336, .f32⟩
  | .hbm, ⟨79, _⟩ => ⟨S128x14336, .bf16⟩
  | _, _ => ⟨S64x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_3 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_5 : Ref sig .tc := ⟨.hbm, 63, rfl⟩
abbrev main_v52 : Ref sig .tc := ⟨.hbm, 64, rfl⟩
abbrev main_v53 : Ref sig .tc := ⟨.hbm, 65, rfl⟩
abbrev main_c_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== Rotate.lean ====
abbrev S1x128x4096 : Shape := ⟨3, ![1, 128, 4096]⟩
abbrev S12x2048 : Shape := ⟨2, ![12, 2048]⟩
abbrev S1x2048 : Shape := ⟨2, ![1, 2048]⟩
abbrev S2048 : Shape := ⟨1, ![2048]⟩
abbrev S2048x1x1 : Shape := ⟨3, ![2048, 1, 1]⟩
abbrev S2048x2x1 : Shape := ⟨3, ![2048, 2, 1]⟩
abbrev S4096 : Shape := ⟨1, ![4096]⟩
abbrev S1024x1x2 : Shape := ⟨3, ![1024, 1, 2]⟩
abbrev S1024x2x2 : Shape := ⟨3, ![1024, 2, 2]⟩
abbrev S512x1x4 : Shape := ⟨3, ![512, 1, 4]⟩
abbrev S512x2x4 : Shape := ⟨3, ![512, 2, 4]⟩
abbrev S256x1x8 : Shape := ⟨3, ![256, 1, 8]⟩
abbrev S256x2x8 : Shape := ⟨3, ![256, 2, 8]⟩
abbrev S128x1x16 : Shape := ⟨3, ![128, 1, 16]⟩
abbrev S128x2x16 : Shape := ⟨3, ![128, 2, 16]⟩
abbrev S64x1x32 : Shape := ⟨3, ![64, 1, 32]⟩
abbrev S64x2x32 : Shape := ⟨3, ![64, 2, 32]⟩
abbrev S32x1x64 : Shape := ⟨3, ![32, 1, 64]⟩
abbrev S32x2x64 : Shape := ⟨3, ![32, 2, 64]⟩
abbrev S16x1x128 : Shape := ⟨3, ![16, 1, 128]⟩
abbrev S16x2x128 : Shape := ⟨3, ![16, 2, 128]⟩
abbrev S8x1x256 : Shape := ⟨3, ![8, 1, 256]⟩
abbrev S8x2x256 : Shape := ⟨3, ![8, 2, 256]⟩
abbrev S4x1x512 : Shape := ⟨3, ![4, 1, 512]⟩
abbrev S4x2x512 : Shape := ⟨3, ![4, 2, 512]⟩
abbrev S2x1x1024 : Shape := ⟨3, ![2, 1, 1024]⟩
abbrev S2x2x1024 : Shape := ⟨3, ![2, 2, 1024]⟩
abbrev S1x1x2048 : Shape := ⟨3, ![1, 1, 2048]⟩
abbrev S1x2x2048 : Shape := ⟨3, ![1, 2, 2048]⟩
abbrev S1x4096 : Shape := ⟨2, ![1, 4096]⟩
abbrev S12x4096 : Shape := ⟨2, ![12, 4096]⟩
abbrev S128x4096 : Shape := ⟨2, ![128, 4096]⟩
abbrev S64x4096 : Shape := ⟨2, ![64, 4096]⟩
abbrev S16x4096 : Shape := ⟨2, ![16, 4096]⟩
abbrev S8x4096 : Shape := ⟨2, ![8, 4096]⟩
abbrev S16x128 : Shape := ⟨2, ![16, 128]⟩
abbrev S1x128 : Shape := ⟨2, ![1, 128]⟩
abbrev S16x128x1 : Shape := ⟨3, ![16, 128, 1]⟩
abbrev S8x128 : Shape := ⟨2, ![8, 128]⟩

abbrev nBuf : Space → Nat
  | .hbm => 151
  | .vmem => 8
  | .smem => 0
  | _ => 0

abbrev hbmTy0_0 (i : Nat) : BufTy := match i % 128 with
  | 0 => ⟨S1x128x4096, .bf16⟩
  | 1 => ⟨S12x2048, .f32⟩
  | 2 => ⟨S1x2048, .f32⟩
  | 3 => ⟨S2048, .f32⟩
  | 4 => ⟨S2048x1x1, .f32⟩
  | 5 => ⟨S2048x1x1, .f32⟩
  | 6 => ⟨S2048x1x1, .f32⟩
  | 7 => ⟨S2048x2x1, .f32⟩
  | 8 => ⟨S4096, .f32⟩
  | 9 => ⟨S2048x1x1, .f32⟩
  | 10 => ⟨S2048x2x1, .f32⟩
  | 11 => ⟨S4096, .f32⟩
  | 12 => ⟨S1x2048, .f32⟩
  | 13 => ⟨S2048, .f32⟩
  | 14 => ⟨S1024x1x2, .f32⟩
  | 15 => ⟨S1024x1x2, .f32⟩
  | 16 => ⟨S1024x1x2, .f32⟩
  | 17 => ⟨S1024x2x2, .f32⟩
  | 18 => ⟨S4096, .f32⟩
  | 19 => ⟨S1024x1x2, .f32⟩
  | 20 => ⟨S1024x2x2, .f32⟩
  | 21 => ⟨S4096, .f32⟩
  | 22 => ⟨S1x2048, .f32⟩
  | 23 => ⟨S2048, .f32⟩
  | 24 => ⟨S512x1x4, .f32⟩
  | 25 => ⟨S512x1x4, .f32⟩
  | 26 => ⟨S512x1x4, .f32⟩
  | 27 => ⟨S512x2x4, .f32⟩
  | 28 => ⟨S4096, .f32⟩
  | 29 => ⟨S512x1x4, .f32⟩
  | 30 => ⟨S512x2x4, .f32⟩
  | 31 => ⟨S4096, .f32⟩
  | 32 => ⟨S1x2048, .f32⟩
  | 33 => ⟨S2048, .f32⟩
  | 34 => ⟨S256x1x8, .f32⟩
  | 35 => ⟨S256x1x8, .f32⟩
  | 36 => ⟨S256x1x8, .f32⟩
  | 37 => ⟨S256x2x8, .f32⟩
  | 38 => ⟨S4096, .f32⟩
  | 39 => ⟨S256x1x8, .f32⟩
  | 40 => ⟨S256x2x8, .f32⟩
  | 41 => ⟨S4096, .f32⟩
  | 42 => ⟨S1x2048, .f32⟩
  | 43 => ⟨S2048, .f32⟩
  | 44 => ⟨S128x1x16, .f32⟩
  | 45 => ⟨S128x1x16, .f32⟩
  | 46 => ⟨S128x1x16, .f32⟩
  | 47 => ⟨S128x2x16, .f32⟩
  | 48 => ⟨S4096, .f32⟩
  | 49 => ⟨S128x1x16, .f32⟩
  | 50 => ⟨S128x2x16, .f32⟩
  | 51 => ⟨S4096, .f32⟩
  | 52 => ⟨S1x2048, .f32⟩
  | 53 => ⟨S2048, .f32⟩
  | 54 => ⟨S64x1x32, .f32⟩
  | 55 => ⟨S64x1x32, .f32⟩
  | 56 => ⟨S64x1x32, .f32⟩
  | 57 => ⟨S64x2x32, .f32⟩
  | 58 => ⟨S4096, .f32⟩
  | 59 => ⟨S64x1x32, .f32⟩
  | 60 => ⟨S64x2x32, .f32⟩
  | 61 => ⟨S4096, .f32⟩
  | 62 => ⟨S1x2048, .f32⟩
  | 63 => ⟨S2048, .f32⟩
  | 64 => ⟨S32x1x64, .f32⟩
  | 65 => ⟨S32x1x64, .f32⟩
  | 66 => ⟨S32x1x64, .f32⟩
  | 67 => ⟨S32x2x64, .f32⟩
  | 68 => ⟨S4096, .f32⟩
  | 69 => ⟨S32x1x64, .f32⟩
  | 70 => ⟨S32x2x64, .f32⟩
  | 71 => ⟨S4096, .f32⟩
  | 72 => ⟨S1x2048, .f32⟩
  | 73 => ⟨S2048, .f32⟩
  | 74 => ⟨S16x1x128, .f32⟩
  | 75 => ⟨S16x1x128, .f32⟩
  | 76 => ⟨S16x1x128, .f32⟩
  | 77 => ⟨S16x2x128, .f32⟩
  | 78 => ⟨S4096, .f32⟩
  | 79 => ⟨S16x1x128, .f32⟩
  | 80 => ⟨S16x2x128, .f32⟩
  | 81 => ⟨S4096, .f32⟩
  | 82 => ⟨S1x2048, .f32⟩
  | 83 => ⟨S2048, .f32⟩
  | 84 => ⟨S8x1x256, .f32⟩
  | 85 => ⟨S8x1x256, .f32⟩
  | 86 => ⟨S8x1x256, .f32⟩
  | 87 => ⟨S8x2x256, .f32⟩
  | 88 => ⟨S4096, .f32⟩
  | 89 => ⟨S8x1x256, .f32⟩
  | 90 => ⟨S8x2x256, .f32⟩
  | 91 => ⟨S4096, .f32⟩
  | 92 => ⟨S1x2048, .f32⟩
  | 93 => ⟨S2048, .f32⟩
  | 94 => ⟨S4x1x512, .f32⟩
  | 95 => ⟨S4x1x512, .f32⟩
  | 96 => ⟨S4x1x512, .f32⟩
  | 97 => ⟨S4x2x512, .f32⟩
  | 98 => ⟨S4096, .f32⟩
  | 99 => ⟨S4x1x512, .f32⟩
  | 100 => ⟨S4x2x512, .f32⟩
  | 101 => ⟨S4096, .f32⟩
  | 102 => ⟨S1x2048, .f32⟩
  | 103 => ⟨S2048, .f32⟩
  | 104 => ⟨S2x1x1024, .f32⟩
  | 105 => ⟨S2x1x1024, .f32⟩
  | 106 => ⟨S2x1x1024, .f32⟩
  | 107 => ⟨S2x2x1024, .f32⟩
  | 108 => ⟨S4096, .f32⟩
  | 109 => ⟨S2x1x1024, .f32⟩
  | 110 => ⟨S2x2x1024, .f32⟩
  | 111 => ⟨S4096, .f32⟩
  | 112 => ⟨S1x2048, .f32⟩
  | 113 => ⟨S2048, .f32⟩
  | 114 => ⟨S1x1x2048, .f32⟩
  | 115 => ⟨S1x1x2048, .f32⟩
  | 116 => ⟨S1x1x2048, .f32⟩
  | 117 => ⟨S1x2x2048, .f32⟩
  | 118 => ⟨S4096, .f32⟩
  | 119 => ⟨S1x1x2048, .f32⟩
  | 120 => ⟨S1x2x2048, .f32⟩
  | 121 => ⟨S4096, .f32⟩
  | 122 => ⟨S1x4096, .f32⟩
  | 123 => ⟨S1x4096, .f32⟩
  | 124 => ⟨S1x4096, .f32⟩
  | 125 => ⟨S1x4096, .f32⟩
  | 126 => ⟨S1x4096, .f32⟩
  | 127 => ⟨S1x4096, .f32⟩
  | _ => ⟨S1x128x4096, .bf16⟩

abbrev hbmTy0_1 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x4096, .f32⟩
  | 5 => ⟨S1x4096, .f32⟩
  | 6 => ⟨S12x4096, .f32⟩
  | 7 => ⟨S1x4096, .f32⟩
  | 8 => ⟨S1x4096, .f32⟩
  | 9 => ⟨S1x4096, .f32⟩
  | 10 => ⟨S1x4096, .f32⟩
  | 11 => ⟨S1x4096, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x4096, .f32⟩
  | 19 => ⟨S12x4096, .f32⟩
  | 20 => ⟨S128x4096, .bf16⟩
  | 21 => ⟨S128x4096, .bf16⟩
  | 22 => ⟨S64x4096, .i32⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | .local _ .vmem, ⟨0, _⟩ => ⟨S16x4096, .bf16⟩
  | .local _ .vmem, ⟨1, _⟩ => ⟨S16x4096, .bf16⟩
  | .local _ .vmem, ⟨2, _⟩ => ⟨S12x4096, .f32⟩
  | .local _ .vmem, ⟨3, _⟩ => ⟨S12x4096, .f32⟩
  | .local _ .vmem, ⟨4, _⟩ => ⟨S16x4096, .bf16⟩
  | .local _ .vmem, ⟨5, _⟩ => ⟨S16x4096, .bf16⟩
  | .local _ .vmem, ⟨6, _⟩ => ⟨S8x4096, .i32⟩
  | .local _ .vmem, ⟨7, _⟩ => ⟨S8x4096, .i32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147_0 : Ref sig .tc := ⟨.hbm, 149, rfl⟩
abbrev main_v147_1 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotateIdeal.lean ====
abbrev S1x128x4096 : Shape := ⟨3, ![1, 128, 4096]⟩
abbrev S12x2048 : Shape := ⟨2, ![12, 2048]⟩
abbrev S1x2048 : Shape := ⟨2, ![1, 2048]⟩
abbrev S2048 : Shape := ⟨1, ![2048]⟩
abbrev S2048x1x1 : Shape := ⟨3, ![2048, 1, 1]⟩
abbrev S2048x2x1 : Shape := ⟨3, ![2048, 2, 1]⟩
abbrev S4096 : Shape := ⟨1, ![4096]⟩
abbrev S1024x1x2 : Shape := ⟨3, ![1024, 1, 2]⟩
abbrev S1024x2x2 : Shape := ⟨3, ![1024, 2, 2]⟩
abbrev S512x1x4 : Shape := ⟨3, ![512, 1, 4]⟩
abbrev S512x2x4 : Shape := ⟨3, ![512, 2, 4]⟩
abbrev S256x1x8 : Shape := ⟨3, ![256, 1, 8]⟩
abbrev S256x2x8 : Shape := ⟨3, ![256, 2, 8]⟩
abbrev S128x1x16 : Shape := ⟨3, ![128, 1, 16]⟩
abbrev S128x2x16 : Shape := ⟨3, ![128, 2, 16]⟩
abbrev S64x1x32 : Shape := ⟨3, ![64, 1, 32]⟩
abbrev S64x2x32 : Shape := ⟨3, ![64, 2, 32]⟩
abbrev S32x1x64 : Shape := ⟨3, ![32, 1, 64]⟩
abbrev S32x2x64 : Shape := ⟨3, ![32, 2, 64]⟩
abbrev S16x1x128 : Shape := ⟨3, ![16, 1, 128]⟩
abbrev S16x2x128 : Shape := ⟨3, ![16, 2, 128]⟩
abbrev S8x1x256 : Shape := ⟨3, ![8, 1, 256]⟩
abbrev S8x2x256 : Shape := ⟨3, ![8, 2, 256]⟩
abbrev S4x1x512 : Shape := ⟨3, ![4, 1, 512]⟩
abbrev S4x2x512 : Shape := ⟨3, ![4, 2, 512]⟩
abbrev S2x1x1024 : Shape := ⟨3, ![2, 1, 1024]⟩
abbrev S2x2x1024 : Shape := ⟨3, ![2, 2, 1024]⟩
abbrev S1x1x2048 : Shape := ⟨3, ![1, 1, 2048]⟩
abbrev S1x2x2048 : Shape := ⟨3, ![1, 2, 2048]⟩
abbrev S1x4096 : Shape := ⟨2, ![1, 4096]⟩
abbrev S12x4096 : Shape := ⟨2, ![12, 4096]⟩
abbrev S128x4096 : Shape := ⟨2, ![128, 4096]⟩
abbrev S64x2x4096 : Shape := ⟨3, ![64, 2, 4096]⟩
abbrev S64x1x4096 : Shape := ⟨3, ![64, 1, 4096]⟩
abbrev S64x4096 : Shape := ⟨2, ![64, 4096]⟩
abbrev S16x4096 : Shape := ⟨2, ![16, 4096]⟩
abbrev S8x4096 : Shape := ⟨2, ![8, 4096]⟩
abbrev S8x2x4096 : Shape := ⟨3, ![8, 2, 4096]⟩
abbrev S8x1x4096 : Shape := ⟨3, ![8, 1, 4096]⟩
abbrev S16x128 : Shape := ⟨2, ![16, 128]⟩
abbrev S1x128 : Shape := ⟨2, ![1, 128]⟩
abbrev S16x128x1 : Shape := ⟨3, ![16, 128, 1]⟩
abbrev S8x128 : Shape := ⟨2, ![8, 128]⟩
abbrev S8x2x128 : Shape := ⟨3, ![8, 2, 128]⟩
abbrev S8x1x128 : Shape := ⟨3, ![8, 1, 128]⟩

abbrev nBuf : Space → Nat
  | .hbm => 151
  | .vmem => 8
  | .smem => 0
  | _ => 0

abbrev hbmTy0_0 (i : Nat) : BufTy := match i % 128 with
  | 0 => ⟨S1x128x4096, .bf16⟩
  | 1 => ⟨S12x2048, .f32⟩
  | 2 => ⟨S1x2048, .f32⟩
  | 3 => ⟨S2048, .f32⟩
  | 4 => ⟨S2048x1x1, .f32⟩
  | 5 => ⟨S2048x1x1, .f32⟩
  | 6 => ⟨S2048x1x1, .f32⟩
  | 7 => ⟨S2048x2x1, .f32⟩
  | 8 => ⟨S4096, .f32⟩
  | 9 => ⟨S2048x1x1, .f32⟩
  | 10 => ⟨S2048x2x1, .f32⟩
  | 11 => ⟨S4096, .f32⟩
  | 12 => ⟨S1x2048, .f32⟩
  | 13 => ⟨S2048, .f32⟩
  | 14 => ⟨S1024x1x2, .f32⟩
  | 15 => ⟨S1024x1x2, .f32⟩
  | 16 => ⟨S1024x1x2, .f32⟩
  | 17 => ⟨S1024x2x2, .f32⟩
  | 18 => ⟨S4096, .f32⟩
  | 19 => ⟨S1024x1x2, .f32⟩
  | 20 => ⟨S1024x2x2, .f32⟩
  | 21 => ⟨S4096, .f32⟩
  | 22 => ⟨S1x2048, .f32⟩
  | 23 => ⟨S2048, .f32⟩
  | 24 => ⟨S512x1x4, .f32⟩
  | 25 => ⟨S512x1x4, .f32⟩
  | 26 => ⟨S512x1x4, .f32⟩
  | 27 => ⟨S512x2x4, .f32⟩
  | 28 => ⟨S4096, .f32⟩
  | 29 => ⟨S512x1x4, .f32⟩
  | 30 => ⟨S512x2x4, .f32⟩
  | 31 => ⟨S4096, .f32⟩
  | 32 => ⟨S1x2048, .f32⟩
  | 33 => ⟨S2048, .f32⟩
  | 34 => ⟨S256x1x8, .f32⟩
  | 35 => ⟨S256x1x8, .f32⟩
  | 36 => ⟨S256x1x8, .f32⟩
  | 37 => ⟨S256x2x8, .f32⟩
  | 38 => ⟨S4096, .f32⟩
  | 39 => ⟨S256x1x8, .f32⟩
  | 40 => ⟨S256x2x8, .f32⟩
  | 41 => ⟨S4096, .f32⟩
  | 42 => ⟨S1x2048, .f32⟩
  | 43 => ⟨S2048, .f32⟩
  | 44 => ⟨S128x1x16, .f32⟩
  | 45 => ⟨S128x1x16, .f32⟩
  | 46 => ⟨S128x1x16, .f32⟩
  | 47 => ⟨S128x2x16, .f32⟩
  | 48 => ⟨S4096, .f32⟩
  | 49 => ⟨S128x1x16, .f32⟩
  | 50 => ⟨S128x2x16, .f32⟩
  | 51 => ⟨S4096, .f32⟩
  | 52 => ⟨S1x2048, .f32⟩
  | 53 => ⟨S2048, .f32⟩
  | 54 => ⟨S64x1x32, .f32⟩
  | 55 => ⟨S64x1x32, .f32⟩
  | 56 => ⟨S64x1x32, .f32⟩
  | 57 => ⟨S64x2x32, .f32⟩
  | 58 => ⟨S4096, .f32⟩
  | 59 => ⟨S64x1x32, .f32⟩
  | 60 => ⟨S64x2x32, .f32⟩
  | 61 => ⟨S4096, .f32⟩
  | 62 => ⟨S1x2048, .f32⟩
  | 63 => ⟨S2048, .f32⟩
  | 64 => ⟨S32x1x64, .f32⟩
  | 65 => ⟨S32x1x64, .f32⟩
  | 66 => ⟨S32x1x64, .f32⟩
  | 67 => ⟨S32x2x64, .f32⟩
  | 68 => ⟨S4096, .f32⟩
  | 69 => ⟨S32x1x64, .f32⟩
  | 70 => ⟨S32x2x64, .f32⟩
  | 71 => ⟨S4096, .f32⟩
  | 72 => ⟨S1x2048, .f32⟩
  | 73 => ⟨S2048, .f32⟩
  | 74 => ⟨S16x1x128, .f32⟩
  | 75 => ⟨S16x1x128, .f32⟩
  | 76 => ⟨S16x1x128, .f32⟩
  | 77 => ⟨S16x2x128, .f32⟩
  | 78 => ⟨S4096, .f32⟩
  | 79 => ⟨S16x1x128, .f32⟩
  | 80 => ⟨S16x2x128, .f32⟩
  | 81 => ⟨S4096, .f32⟩
  | 82 => ⟨S1x2048, .f32⟩
  | 83 => ⟨S2048, .f32⟩
  | 84 => ⟨S8x1x256, .f32⟩
  | 85 => ⟨S8x1x256, .f32⟩
  | 86 => ⟨S8x1x256, .f32⟩
  | 87 => ⟨S8x2x256, .f32⟩
  | 88 => ⟨S4096, .f32⟩
  | 89 => ⟨S8x1x256, .f32⟩
  | 90 => ⟨S8x2x256, .f32⟩
  | 91 => ⟨S4096, .f32⟩
  | 92 => ⟨S1x2048, .f32⟩
  | 93 => ⟨S2048, .f32⟩
  | 94 => ⟨S4x1x512, .f32⟩
  | 95 => ⟨S4x1x512, .f32⟩
  | 96 => ⟨S4x1x512, .f32⟩
  | 97 => ⟨S4x2x512, .f32⟩
  | 98 => ⟨S4096, .f32⟩
  | 99 => ⟨S4x1x512, .f32⟩
  | 100 => ⟨S4x2x512, .f32⟩
  | 101 => ⟨S4096, .f32⟩
  | 102 => ⟨S1x2048, .f32⟩
  | 103 => ⟨S2048, .f32⟩
  | 104 => ⟨S2x1x1024, .f32⟩
  | 105 => ⟨S2x1x1024, .f32⟩
  | 106 => ⟨S2x1x1024, .f32⟩
  | 107 => ⟨S2x2x1024, .f32⟩
  | 108 => ⟨S4096, .f32⟩
  | 109 => ⟨S2x1x1024, .f32⟩
  | 110 => ⟨S2x2x1024, .f32⟩
  | 111 => ⟨S4096, .f32⟩
  | 112 => ⟨S1x2048, .f32⟩
  | 113 => ⟨S2048, .f32⟩
  | 114 => ⟨S1x1x2048, .f32⟩
  | 115 => ⟨S1x1x2048, .f32⟩
  | 116 => ⟨S1x1x2048, .f32⟩
  | 117 => ⟨S1x2x2048, .f32⟩
  | 118 => ⟨S4096, .f32⟩
  | 119 => ⟨S1x1x2048, .f32⟩
  | 120 => ⟨S1x2x2048, .f32⟩
  | 121 => ⟨S4096, .f32⟩
  | 122 => ⟨S1x4096, .f32⟩
  | 123 => ⟨S1x4096, .f32⟩
  | 124 => ⟨S1x4096, .f32⟩
  | 125 => ⟨S1x4096, .f32⟩
  | 126 => ⟨S1x4096, .f32⟩
  | 127 => ⟨S1x4096, .f32⟩
  | _ => ⟨S1x128x4096, .bf16⟩

abbrev hbmTy0_1 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x4096, .f32⟩
  | 5 => ⟨S1x4096, .f32⟩
  | 6 => ⟨S12x4096, .f32⟩
  | 7 => ⟨S1x4096, .f32⟩
  | 8 => ⟨S1x4096, .f32⟩
  | 9 => ⟨S1x4096, .f32⟩
  | 10 => ⟨S1x4096, .f32⟩
  | 11 => ⟨S1x4096, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x4096, .f32⟩
  | 19 => ⟨S12x4096, .f32⟩
  | 20 => ⟨S128x4096, .bf16⟩
  | 21 => ⟨S128x4096, .bf16⟩
  | 22 => ⟨S64x2x4096, .bf16⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | .local _ .vmem, ⟨0, _⟩ => ⟨S16x4096, .bf16⟩
  | .local _ .vmem, ⟨1, _⟩ => ⟨S16x4096, .bf16⟩
  | .local _ .vmem, ⟨2, _⟩ => ⟨S12x4096, .f32⟩
  | .local _ .vmem, ⟨3, _⟩ => ⟨S12x4096, .f32⟩
  | .local _ .vmem, ⟨4, _⟩ => ⟨S16x4096, .bf16⟩
  | .local _ .vmem, ⟨5, _⟩ => ⟨S16x4096, .bf16⟩
  | .local _ .vmem, ⟨6, _⟩ => ⟨S8x2x4096, .bf16⟩
  | .local _ .vmem, ⟨7, _⟩ => ⟨S8x2x4096, .bf16⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147_0 : Ref sig .tc := ⟨.hbm, 149, rfl⟩
abbrev main_v147_1 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S16x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotateReferenceIdeal.lean ====
abbrev S1x128x4096 : Shape := ⟨3, ![1, 128, 4096]⟩
abbrev S12x2048 : Shape := ⟨2, ![12, 2048]⟩
abbrev S128x4096 : Shape := ⟨2, ![128, 4096]⟩
abbrev S128x2048x2x1 : Shape := ⟨4, ![128, 2048, 2, 1]⟩
abbrev S128x2048x1x1 : Shape := ⟨4, ![128, 2048, 1, 1]⟩
abbrev S128x2048x1 : Shape := ⟨3, ![128, 2048, 1]⟩
abbrev S1x2048 : Shape := ⟨2, ![1, 2048]⟩
abbrev S2048 : Shape := ⟨1, ![2048]⟩
abbrev S2048x1 : Shape := ⟨2, ![2048, 1]⟩
abbrev S1x2048x1 : Shape := ⟨3, ![1, 2048, 1]⟩
abbrev S128x1024x2x2 : Shape := ⟨4, ![128, 1024, 2, 2]⟩
abbrev S128x1024x1x2 : Shape := ⟨4, ![128, 1024, 1, 2]⟩
abbrev S128x1024x2 : Shape := ⟨3, ![128, 1024, 2]⟩
abbrev S1024x2 : Shape := ⟨2, ![1024, 2]⟩
abbrev S1x1024x2 : Shape := ⟨3, ![1, 1024, 2]⟩
abbrev S128x512x2x4 : Shape := ⟨4, ![128, 512, 2, 4]⟩
abbrev S128x512x1x4 : Shape := ⟨4, ![128, 512, 1, 4]⟩
abbrev S128x512x4 : Shape := ⟨3, ![128, 512, 4]⟩
abbrev S512x4 : Shape := ⟨2, ![512, 4]⟩
abbrev S1x512x4 : Shape := ⟨3, ![1, 512, 4]⟩
abbrev S128x256x2x8 : Shape := ⟨4, ![128, 256, 2, 8]⟩
abbrev S128x256x1x8 : Shape := ⟨4, ![128, 256, 1, 8]⟩
abbrev S128x256x8 : Shape := ⟨3, ![128, 256, 8]⟩
abbrev S256x8 : Shape := ⟨2, ![256, 8]⟩
abbrev S1x256x8 : Shape := ⟨3, ![1, 256, 8]⟩
abbrev S128x128x2x16 : Shape := ⟨4, ![128, 128, 2, 16]⟩
abbrev S128x128x1x16 : Shape := ⟨4, ![128, 128, 1, 16]⟩
abbrev S128x128x16 : Shape := ⟨3, ![128, 128, 16]⟩
abbrev S128x16 : Shape := ⟨2, ![128, 16]⟩
abbrev S1x128x16 : Shape := ⟨3, ![1, 128, 16]⟩
abbrev S128x64x2x32 : Shape := ⟨4, ![128, 64, 2, 32]⟩
abbrev S128x64x1x32 : Shape := ⟨4, ![128, 64, 1, 32]⟩
abbrev S128x64x32 : Shape := ⟨3, ![128, 64, 32]⟩
abbrev S64x32 : Shape := ⟨2, ![64, 32]⟩
abbrev S1x64x32 : Shape := ⟨3, ![1, 64, 32]⟩
abbrev S128x32x2x64 : Shape := ⟨4, ![128, 32, 2, 64]⟩
abbrev S128x32x1x64 : Shape := ⟨4, ![128, 32, 1, 64]⟩
abbrev S128x32x64 : Shape := ⟨3, ![128, 32, 64]⟩
abbrev S32x64 : Shape := ⟨2, ![32, 64]⟩
abbrev S1x32x64 : Shape := ⟨3, ![1, 32, 64]⟩
abbrev S128x16x2x128 : Shape := ⟨4, ![128, 16, 2, 128]⟩
abbrev S128x16x1x128 : Shape := ⟨4, ![128, 16, 1, 128]⟩
abbrev S128x16x128 : Shape := ⟨3, ![128, 16, 128]⟩
abbrev S16x128 : Shape := ⟨2, ![16, 128]⟩
abbrev S1x16x128 : Shape := ⟨3, ![1, 16, 128]⟩
abbrev S128x8x2x256 : Shape := ⟨4, ![128, 8, 2, 256]⟩
abbrev S128x8x1x256 : Shape := ⟨4, ![128, 8, 1, 256]⟩
abbrev S128x8x256 : Shape := ⟨3, ![128, 8, 256]⟩
abbrev S8x256 : Shape := ⟨2, ![8, 256]⟩
abbrev S1x8x256 : Shape := ⟨3, ![1, 8, 256]⟩
abbrev S128x4x2x512 : Shape := ⟨4, ![128, 4, 2, 512]⟩
abbrev S128x4x1x512 : Shape := ⟨4, ![128, 4, 1, 512]⟩
abbrev S128x4x512 : Shape := ⟨3, ![128, 4, 512]⟩
abbrev S4x512 : Shape := ⟨2, ![4, 512]⟩
abbrev S1x4x512 : Shape := ⟨3, ![1, 4, 512]⟩
abbrev S128x2x2x1024 : Shape := ⟨4, ![128, 2, 2, 1024]⟩
abbrev S128x2x1x1024 : Shape := ⟨4, ![128, 2, 1, 1024]⟩
abbrev S128x2x1024 : Shape := ⟨3, ![128, 2, 1024]⟩
abbrev S2x1024 : Shape := ⟨2, ![2, 1024]⟩
abbrev S1x2x1024 : Shape := ⟨3, ![1, 2, 1024]⟩
abbrev S128x1x2x2048 : Shape := ⟨4, ![128, 1, 2, 2048]⟩
abbrev S128x1x1x2048 : Shape := ⟨4, ![128, 1, 1, 2048]⟩
abbrev S128x1x2048 : Shape := ⟨3, ![128, 1, 2048]⟩
abbrev S1x1x2048 : Shape := ⟨3, ![1, 1, 2048]⟩

abbrev nBuf : Space → Nat
  | .hbm => 341
  | .vmem => 0
  | .smem => 0
  | _ => 0

abbrev hbmTy0_0 (i : Nat) : BufTy := match i % 128 with
  | 0 => ⟨S1x128x4096, .bf16⟩
  | 1 => ⟨S12x2048, .f32⟩
  | 2 => ⟨S128x4096, .bf16⟩
  | 3 => ⟨S128x4096, .f32⟩
  | 4 => ⟨S128x2048x2x1, .f32⟩
  | 5 => ⟨S128x2048x1x1, .f32⟩
  | 6 => ⟨S128x2048x1, .f32⟩
  | 7 => ⟨S128x2048x1x1, .f32⟩
  | 8 => ⟨S128x2048x1, .f32⟩
  | 9 => ⟨S1x2048, .f32⟩
  | 10 => ⟨S2048, .f32⟩
  | 11 => ⟨S2048x1, .f32⟩
  | 12 => ⟨S2048x1, .f32⟩
  | 13 => ⟨S2048x1, .f32⟩
  | 14 => ⟨S1x2048x1, .f32⟩
  | 15 => ⟨S128x2048x1, .f32⟩
  | 16 => ⟨S128x2048x1, .f32⟩
  | 17 => ⟨S1x2048x1, .f32⟩
  | 18 => ⟨S128x2048x1, .f32⟩
  | 19 => ⟨S128x2048x1, .f32⟩
  | 20 => ⟨S128x2048x1, .f32⟩
  | 21 => ⟨S1x2048x1, .f32⟩
  | 22 => ⟨S128x2048x1, .f32⟩
  | 23 => ⟨S128x2048x1, .f32⟩
  | 24 => ⟨S1x2048x1, .f32⟩
  | 25 => ⟨S128x2048x1, .f32⟩
  | 26 => ⟨S128x2048x1, .f32⟩
  | 27 => ⟨S128x2048x1, .f32⟩
  | 28 => ⟨S128x2048x1x1, .f32⟩
  | 29 => ⟨S128x2048x1x1, .f32⟩
  | 30 => ⟨S128x2048x2x1, .f32⟩
  | 31 => ⟨S128x4096, .f32⟩
  | 32 => ⟨S128x1024x2x2, .f32⟩
  | 33 => ⟨S128x1024x1x2, .f32⟩
  | 34 => ⟨S128x1024x2, .f32⟩
  | 35 => ⟨S128x1024x1x2, .f32⟩
  | 36 => ⟨S128x1024x2, .f32⟩
  | 37 => ⟨S1x2048, .f32⟩
  | 38 => ⟨S2048, .f32⟩
  | 39 => ⟨S1024x2, .f32⟩
  | 40 => ⟨S1024x2, .f32⟩
  | 41 => ⟨S1024x2, .f32⟩
  | 42 => ⟨S1x1024x2, .f32⟩
  | 43 => ⟨S128x1024x2, .f32⟩
  | 44 => ⟨S128x1024x2, .f32⟩
  | 45 => ⟨S1x1024x2, .f32⟩
  | 46 => ⟨S128x1024x2, .f32⟩
  | 47 => ⟨S128x1024x2, .f32⟩
  | 48 => ⟨S128x1024x2, .f32⟩
  | 49 => ⟨S1x1024x2, .f32⟩
  | 50 => ⟨S128x1024x2, .f32⟩
  | 51 => ⟨S128x1024x2, .f32⟩
  | 52 => ⟨S1x1024x2, .f32⟩
  | 53 => ⟨S128x1024x2, .f32⟩
  | 54 => ⟨S128x1024x2, .f32⟩
  | 55 => ⟨S128x1024x2, .f32⟩
  | 56 => ⟨S128x1024x1x2, .f32⟩
  | 57 => ⟨S128x1024x1x2, .f32⟩
  | 58 => ⟨S128x1024x2x2, .f32⟩
  | 59 => ⟨S128x4096, .f32⟩
  | 60 => ⟨S128x512x2x4, .f32⟩
  | 61 => ⟨S128x512x1x4, .f32⟩
  | 62 => ⟨S128x512x4, .f32⟩
  | 63 => ⟨S128x512x1x4, .f32⟩
  | 64 => ⟨S128x512x4, .f32⟩
  | 65 => ⟨S1x2048, .f32⟩
  | 66 => ⟨S2048, .f32⟩
  | 67 => ⟨S512x4, .f32⟩
  | 68 => ⟨S512x4, .f32⟩
  | 69 => ⟨S512x4, .f32⟩
  | 70 => ⟨S1x512x4, .f32⟩
  | 71 => ⟨S128x512x4, .f32⟩
  | 72 => ⟨S128x512x4, .f32⟩
  | 73 => ⟨S1x512x4, .f32⟩
  | 74 => ⟨S128x512x4, .f32⟩
  | 75 => ⟨S128x512x4, .f32⟩
  | 76 => ⟨S128x512x4, .f32⟩
  | 77 => ⟨S1x512x4, .f32⟩
  | 78 => ⟨S128x512x4, .f32⟩
  | 79 => ⟨S128x512x4, .f32⟩
  | 80 => ⟨S1x512x4, .f32⟩
  | 81 => ⟨S128x512x4, .f32⟩
  | 82 => ⟨S128x512x4, .f32⟩
  | 83 => ⟨S128x512x4, .f32⟩
  | 84 => ⟨S128x512x1x4, .f32⟩
  | 85 => ⟨S128x512x1x4, .f32⟩
  | 86 => ⟨S128x512x2x4, .f32⟩
  | 87 => ⟨S128x4096, .f32⟩
  | 88 => ⟨S128x256x2x8, .f32⟩
  | 89 => ⟨S128x256x1x8, .f32⟩
  | 90 => ⟨S128x256x8, .f32⟩
  | 91 => ⟨S128x256x1x8, .f32⟩
  | 92 => ⟨S128x256x8, .f32⟩
  | 93 => ⟨S1x2048, .f32⟩
  | 94 => ⟨S2048, .f32⟩
  | 95 => ⟨S256x8, .f32⟩
  | 96 => ⟨S256x8, .f32⟩
  | 97 => ⟨S256x8, .f32⟩
  | 98 => ⟨S1x256x8, .f32⟩
  | 99 => ⟨S128x256x8, .f32⟩
  | 100 => ⟨S128x256x8, .f32⟩
  | 101 => ⟨S1x256x8, .f32⟩
  | 102 => ⟨S128x256x8, .f32⟩
  | 103 => ⟨S128x256x8, .f32⟩
  | 104 => ⟨S128x256x8, .f32⟩
  | 105 => ⟨S1x256x8, .f32⟩
  | 106 => ⟨S128x256x8, .f32⟩
  | 107 => ⟨S128x256x8, .f32⟩
  | 108 => ⟨S1x256x8, .f32⟩
  | 109 => ⟨S128x256x8, .f32⟩
  | 110 => ⟨S128x256x8, .f32⟩
  | 111 => ⟨S128x256x8, .f32⟩
  | 112 => ⟨S128x256x1x8, .f32⟩
  | 113 => ⟨S128x256x1x8, .f32⟩
  | 114 => ⟨S128x256x2x8, .f32⟩
  | 115 => ⟨S128x4096, .f32⟩
  | 116 => ⟨S128x128x2x16, .f32⟩
  | 117 => ⟨S128x128x1x16, .f32⟩
  | 118 => ⟨S128x128x16, .f32⟩
  | 119 => ⟨S128x128x1x16, .f32⟩
  | 120 => ⟨S128x128x16, .f32⟩
  | 121 => ⟨S1x2048, .f32⟩
  | 122 => ⟨S2048, .f32⟩
  | 123 => ⟨S128x16, .f32⟩
  | 124 => ⟨S128x16, .f32⟩
  | 125 => ⟨S128x16, .f32⟩
  | 126 => ⟨S1x128x16, .f32⟩
  | 127 => ⟨S128x128x16, .f32⟩
  | _ => ⟨S1x128x4096, .bf16⟩

abbrev hbmTy0_1 (i : Nat) : BufTy := match i % 128 with
  | 0 => ⟨S128x128x16, .f32⟩
  | 1 => ⟨S1x128x16, .f32⟩
  | 2 => ⟨S128x128x16, .f32⟩
  | 3 => ⟨S128x128x16, .f32⟩
  | 4 => ⟨S128x128x16, .f32⟩
  | 5 => ⟨S1x128x16, .f32⟩
  | 6 => ⟨S128x128x16, .f32⟩
  | 7 => ⟨S128x128x16, .f32⟩
  | 8 => ⟨S1x128x16, .f32⟩
  | 9 => ⟨S128x128x16, .f32⟩
  | 10 => ⟨S128x128x16, .f32⟩
  | 11 => ⟨S128x128x16, .f32⟩
  | 12 => ⟨S128x128x1x16, .f32⟩
  | 13 => ⟨S128x128x1x16, .f32⟩
  | 14 => ⟨S128x128x2x16, .f32⟩
  | 15 => ⟨S128x4096, .f32⟩
  | 16 => ⟨S128x64x2x32, .f32⟩
  | 17 => ⟨S128x64x1x32, .f32⟩
  | 18 => ⟨S128x64x32, .f32⟩
  | 19 => ⟨S128x64x1x32, .f32⟩
  | 20 => ⟨S128x64x32, .f32⟩
  | 21 => ⟨S1x2048, .f32⟩
  | 22 => ⟨S2048, .f32⟩
  | 23 => ⟨S64x32, .f32⟩
  | 24 => ⟨S64x32, .f32⟩
  | 25 => ⟨S64x32, .f32⟩
  | 26 => ⟨S1x64x32, .f32⟩
  | 27 => ⟨S128x64x32, .f32⟩
  | 28 => ⟨S128x64x32, .f32⟩
  | 29 => ⟨S1x64x32, .f32⟩
  | 30 => ⟨S128x64x32, .f32⟩
  | 31 => ⟨S128x64x32, .f32⟩
  | 32 => ⟨S128x64x32, .f32⟩
  | 33 => ⟨S1x64x32, .f32⟩
  | 34 => ⟨S128x64x32, .f32⟩
  | 35 => ⟨S128x64x32, .f32⟩
  | 36 => ⟨S1x64x32, .f32⟩
  | 37 => ⟨S128x64x32, .f32⟩
  | 38 => ⟨S128x64x32, .f32⟩
  | 39 => ⟨S128x64x32, .f32⟩
  | 40 => ⟨S128x64x1x32, .f32⟩
  | 41 => ⟨S128x64x1x32, .f32⟩
  | 42 => ⟨S128x64x2x32, .f32⟩
  | 43 => ⟨S128x4096, .f32⟩
  | 44 => ⟨S128x32x2x64, .f32⟩
  | 45 => ⟨S128x32x1x64, .f32⟩
  | 46 => ⟨S128x32x64, .f32⟩
  | 47 => ⟨S128x32x1x64, .f32⟩
  | 48 => ⟨S128x32x64, .f32⟩
  | 49 => ⟨S1x2048, .f32⟩
  | 50 => ⟨S2048, .f32⟩
  | 51 => ⟨S32x64, .f32⟩
  | 52 => ⟨S32x64, .f32⟩
  | 53 => ⟨S32x64, .f32⟩
  | 54 => ⟨S1x32x64, .f32⟩
  | 55 => ⟨S128x32x64, .f32⟩
  | 56 => ⟨S128x32x64, .f32⟩
  | 57 => ⟨S1x32x64, .f32⟩
  | 58 => ⟨S128x32x64, .f32⟩
  | 59 => ⟨S128x32x64, .f32⟩
  | 60 => ⟨S128x32x64, .f32⟩
  | 61 => ⟨S1x32x64, .f32⟩
  | 62 => ⟨S128x32x64, .f32⟩
  | 63 => ⟨S128x32x64, .f32⟩
  | 64 => ⟨S1x32x64, .f32⟩
  | 65 => ⟨S128x32x64, .f32⟩
  | 66 => ⟨S128x32x64, .f32⟩
  | 67 => ⟨S128x32x64, .f32⟩
  | 68 => ⟨S128x32x1x64, .f32⟩
  | 69 => ⟨S128x32x1x64, .f32⟩
  | 70 => ⟨S128x32x2x64, .f32⟩
  | 71 => ⟨S128x4096, .f32⟩
  | 72 => ⟨S128x16x2x128, .f32⟩
  | 73 => ⟨S128x16x1x128, .f32⟩
  | 74 => ⟨S128x16x128, .f32⟩
  | 75 => ⟨S128x16x1x128, .f32⟩
  | 76 => ⟨S128x16x128, .f32⟩
  | 77 => ⟨S1x2048, .f32⟩
  | 78 => ⟨S2048, .f32⟩
  | 79 => ⟨S16x128, .f32⟩
  | 80 => ⟨S16x128, .f32⟩
  | 81 => ⟨S16x128, .f32⟩
  | 82 => ⟨S1x16x128, .f32⟩
  | 83 => ⟨S128x16x128, .f32⟩
  | 84 => ⟨S128x16x128, .f32⟩
  | 85 => ⟨S1x16x128, .f32⟩
  | 86 => ⟨S128x16x128, .f32⟩
  | 87 => ⟨S128x16x128, .f32⟩
  | 88 => ⟨S128x16x128, .f32⟩
  | 89 => ⟨S1x16x128, .f32⟩
  | 90 => ⟨S128x16x128, .f32⟩
  | 91 => ⟨S128x16x128, .f32⟩
  | 92 => ⟨S1x16x128, .f32⟩
  | 93 => ⟨S128x16x128, .f32⟩
  | 94 => ⟨S128x16x128, .f32⟩
  | 95 => ⟨S128x16x128, .f32⟩
  | 96 => ⟨S128x16x1x128, .f32⟩
  | 97 => ⟨S128x16x1x128, .f32⟩
  | 98 => ⟨S128x16x2x128, .f32⟩
  | 99 => ⟨S128x4096, .f32⟩
  | 100 => ⟨S128x8x2x256, .f32⟩
  | 101 => ⟨S128x8x1x256, .f32⟩
  | 102 => ⟨S128x8x256, .f32⟩
  | 103 => ⟨S128x8x1x256, .f32⟩
  | 104 => ⟨S128x8x256, .f32⟩
  | 105 => ⟨S1x2048, .f32⟩
  | 106 => ⟨S2048, .f32⟩
  | 107 => ⟨S8x256, .f32⟩
  | 108 => ⟨S8x256, .f32⟩
  | 109 => ⟨S8x256, .f32⟩
  | 110 => ⟨S1x8x256, .f32⟩
  | 111 => ⟨S128x8x256, .f32⟩
  | 112 => ⟨S128x8x256, .f32⟩
  | 113 => ⟨S1x8x256, .f32⟩
  | 114 => ⟨S128x8x256, .f32⟩
  | 115 => ⟨S128x8x256, .f32⟩
  | 116 => ⟨S128x8x256, .f32⟩
  | 117 => ⟨S1x8x256, .f32⟩
  | 118 => ⟨S128x8x256, .f32⟩
  | 119 => ⟨S128x8x256, .f32⟩
  | 120 => ⟨S1x8x256, .f32⟩
  | 121 => ⟨S128x8x256, .f32⟩
  | 122 => ⟨S128x8x256, .f32⟩
  | 123 => ⟨S128x8x256, .f32⟩
  | 124 => ⟨S128x8x1x256, .f32⟩
  | 125 => ⟨S128x8x1x256, .f32⟩
  | 126 => ⟨S128x8x2x256, .f32⟩
  | 127 => ⟨S128x4096, .f32⟩
  | _ => ⟨S1x128x4096, .bf16⟩

abbrev hbmTy0_2 (i : Nat) : BufTy := match i % 128 with
  | 0 => ⟨S128x4x2x512, .f32⟩
  | 1 => ⟨S128x4x1x512, .f32⟩
  | 2 => ⟨S128x4x512, .f32⟩
  | 3 => ⟨S128x4x1x512, .f32⟩
  | 4 => ⟨S128x4x512, .f32⟩
  | 5 => ⟨S1x2048, .f32⟩
  | 6 => ⟨S2048, .f32⟩
  | 7 => ⟨S4x512, .f32⟩
  | 8 => ⟨S4x512, .f32⟩
  | 9 => ⟨S4x512, .f32⟩
  | 10 => ⟨S1x4x512, .f32⟩
  | 11 => ⟨S128x4x512, .f32⟩
  | 12 => ⟨S128x4x512, .f32⟩
  | 13 => ⟨S1x4x512, .f32⟩
  | 14 => ⟨S128x4x512, .f32⟩
  | 15 => ⟨S128x4x512, .f32⟩
  | 16 => ⟨S128x4x512, .f32⟩
  | 17 => ⟨S1x4x512, .f32⟩
  | 18 => ⟨S128x4x512, .f32⟩
  | 19 => ⟨S128x4x512, .f32⟩
  | 20 => ⟨S1x4x512, .f32⟩
  | 21 => ⟨S128x4x512, .f32⟩
  | 22 => ⟨S128x4x512, .f32⟩
  | 23 => ⟨S128x4x512, .f32⟩
  | 24 => ⟨S128x4x1x512, .f32⟩
  | 25 => ⟨S128x4x1x512, .f32⟩
  | 26 => ⟨S128x4x2x512, .f32⟩
  | 27 => ⟨S128x4096, .f32⟩
  | 28 => ⟨S128x2x2x1024, .f32⟩
  | 29 => ⟨S128x2x1x1024, .f32⟩
  | 30 => ⟨S128x2x1024, .f32⟩
  | 31 => ⟨S128x2x1x1024, .f32⟩
  | 32 => ⟨S128x2x1024, .f32⟩
  | 33 => ⟨S1x2048, .f32⟩
  | 34 => ⟨S2048, .f32⟩
  | 35 => ⟨S2x1024, .f32⟩
  | 36 => ⟨S2x1024, .f32⟩
  | 37 => ⟨S2x1024, .f32⟩
  | 38 => ⟨S1x2x1024, .f32⟩
  | 39 => ⟨S128x2x1024, .f32⟩
  | 40 => ⟨S128x2x1024, .f32⟩
  | 41 => ⟨S1x2x1024, .f32⟩
  | 42 => ⟨S128x2x1024, .f32⟩
  | 43 => ⟨S128x2x1024, .f32⟩
  | 44 => ⟨S128x2x1024, .f32⟩
  | 45 => ⟨S1x2x1024, .f32⟩
  | 46 => ⟨S128x2x1024, .f32⟩
  | 47 => ⟨S128x2x1024, .f32⟩
  | 48 => ⟨S1x2x1024, .f32⟩
  | 49 => ⟨S128x2x1024, .f32⟩
  | 50 => ⟨S128x2x1024, .f32⟩
  | 51 => ⟨S128x2x1024, .f32⟩
  | 52 => ⟨S128x2x1x1024, .f32⟩
  | 53 => ⟨S128x2x1x1024, .f32⟩
  | 54 => ⟨S128x2x2x1024, .f32⟩
  | 55 => ⟨S128x4096, .f32⟩
  | 56 => ⟨S128x1x2x2048, .f32⟩
  | 57 => ⟨S128x1x1x2048, .f32⟩
  | 58 => ⟨S128x1x2048, .f32⟩
  | 59 => ⟨S128x1x1x2048, .f32⟩
  | 60 => ⟨S128x1x2048, .f32⟩
  | 61 => ⟨S1x2048, .f32⟩
  | 62 => ⟨S2048, .f32⟩
  | 63 => ⟨S1x2048, .f32⟩
  | 64 => ⟨S1x2048, .f32⟩
  | 65 => ⟨S1x2048, .f32⟩
  | 66 => ⟨S1x1x2048, .f32⟩
  | 67 => ⟨S128x1x2048, .f32⟩
  | 68 => ⟨S128x1x2048, .f32⟩
  | 69 => ⟨S1x1x2048, .f32⟩
  | 70 => ⟨S128x1x2048, .f32⟩
  | 71 => ⟨S128x1x2048, .f32⟩
  | 72 => ⟨S128x1x2048, .f32⟩
  | 73 => ⟨S1x1x2048, .f32⟩
  | 74 => ⟨S128x1x2048, .f32⟩
  | 75 => ⟨S128x1x2048, .f32⟩
  | 76 => ⟨S1x1x2048, .f32⟩
  | 77 => ⟨S128x1x2048, .f32⟩
  | 78 => ⟨S128x1x2048, .f32⟩
  | 79 => ⟨S128x1x2048, .f32⟩
  | 80 => ⟨S128x1x1x2048, .f32⟩
  | 81 => ⟨S128x1x1x2048, .f32⟩
  | 82 => ⟨S128x1x2x2048, .f32⟩
  | 83 => ⟨S128x4096, .f32⟩
  | 84 => ⟨S128x4096, .bf16⟩
  | _ => ⟨S1x128x4096, .bf16⟩

abbrev hbmTy (i : Nat) : BufTy := match i / 128 with
  | 0 => hbmTy0_0 i
  | 1 => hbmTy0_1 i
  | 2 => hbmTy0_2 i
  | _ => ⟨S1x128x4096, .bf16⟩

abbrev bufTy : (tb : Table) → Fin (tcTables nBuf tb) → BufTy
  | .hbm, ⟨i, _⟩ => hbmTy i
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_v195 : Ref sig .tc := ⟨.hbm, 197, rfl⟩
abbrev main_v196 : Ref sig .tc := ⟨.hbm, 198, rfl⟩
abbrev main_v197 : Ref sig .tc := ⟨.hbm, 199, rfl⟩
abbrev main_v198 : Ref sig .tc := ⟨.hbm, 200, rfl⟩
abbrev main_v199 : Ref sig .tc := ⟨.hbm, 201, rfl⟩
abbrev main_v200 : Ref sig .tc := ⟨.hbm, 202, rfl⟩
abbrev main_v201 : Ref sig .tc := ⟨.hbm, 203, rfl⟩
abbrev main_v202 : Ref sig .tc := ⟨.hbm, 204, rfl⟩
abbrev main_v203 : Ref sig .tc := ⟨.hbm, 205, rfl⟩
abbrev main_v204 : Ref sig .tc := ⟨.hbm, 206, rfl⟩
abbrev main_v205 : Ref sig .tc := ⟨.hbm, 207, rfl⟩
abbrev main_v206 : Ref sig .tc := ⟨.hbm, 208, rfl⟩
abbrev main_v207 : Ref sig .tc := ⟨.hbm, 209, rfl⟩
abbrev main_v208 : Ref sig .tc := ⟨.hbm, 210, rfl⟩
abbrev main_v209 : Ref sig .tc := ⟨.hbm, 211, rfl⟩
abbrev main_v210 : Ref sig .tc := ⟨.hbm, 212, rfl⟩
abbrev main_v211 : Ref sig .tc := ⟨.hbm, 213, rfl⟩
abbrev main_v212 : Ref sig .tc := ⟨.hbm, 214, rfl⟩
abbrev main_v213 : Ref sig .tc := ⟨.hbm, 215, rfl⟩
abbrev main_v214 : Ref sig .tc := ⟨.hbm, 216, rfl⟩
abbrev main_v215 : Ref sig .tc := ⟨.hbm, 217, rfl⟩
abbrev main_v216 : Ref sig .tc := ⟨.hbm, 218, rfl⟩
abbrev main_v217 : Ref sig .tc := ⟨.hbm, 219, rfl⟩
abbrev main_v218 : Ref sig .tc := ⟨.hbm, 220, rfl⟩
abbrev main_v219 : Ref sig .tc := ⟨.hbm, 221, rfl⟩
abbrev main_v220 : Ref sig .tc := ⟨.hbm, 222, rfl⟩
abbrev main_v221 : Ref sig .tc := ⟨.hbm, 223, rfl⟩
abbrev main_v222 : Ref sig .tc := ⟨.hbm, 224, rfl⟩
abbrev main_v223 : Ref sig .tc := ⟨.hbm, 225, rfl⟩
abbrev main_v224 : Ref sig .tc := ⟨.hbm, 226, rfl⟩
abbrev main_v225 : Ref sig .tc := ⟨.hbm, 227, rfl⟩
abbrev main_v226 : Ref sig .tc := ⟨.hbm, 228, rfl⟩
abbrev main_v227 : Ref sig .tc := ⟨.hbm, 229, rfl⟩
abbrev main_v228 : Ref sig .tc := ⟨.hbm, 230, rfl⟩
abbrev main_v229 : Ref sig .tc := ⟨.hbm, 231, rfl⟩
abbrev main_v230 : Ref sig .tc := ⟨.hbm, 232, rfl⟩
abbrev main_v231 : Ref sig .tc := ⟨.hbm, 233, rfl⟩
abbrev main_v232 : Ref sig .tc := ⟨.hbm, 234, rfl⟩
abbrev main_v233 : Ref sig .tc := ⟨.hbm, 235, rfl⟩
abbrev main_v234 : Ref sig .tc := ⟨.hbm, 236, rfl⟩
abbrev main_v235 : Ref sig .tc := ⟨.hbm, 237, rfl⟩
abbrev main_v236 : Ref sig .tc := ⟨.hbm, 238, rfl⟩
abbrev main_v237 : Ref sig .tc := ⟨.hbm, 239, rfl⟩
abbrev main_v238 : Ref sig .tc := ⟨.hbm, 240, rfl⟩
abbrev main_v239 : Ref sig .tc := ⟨.hbm, 241, rfl⟩
abbrev main_v240 : Ref sig .tc := ⟨.hbm, 242, rfl⟩
abbrev main_v241 : Ref sig .tc := ⟨.hbm, 243, rfl⟩
abbrev main_v242 : Ref sig .tc := ⟨.hbm, 244, rfl⟩
abbrev main_v243 : Ref sig .tc := ⟨.hbm, 245, rfl⟩
abbrev main_v244 : Ref sig .tc := ⟨.hbm, 246, rfl⟩
abbrev main_v245 : Ref sig .tc := ⟨.hbm, 247, rfl⟩
abbrev main_v246 : Ref sig .tc := ⟨.hbm, 248, rfl⟩
abbrev main_v247 : Ref sig .tc := ⟨.hbm, 249, rfl⟩
abbrev main_v248 : Ref sig .tc := ⟨.hbm, 250, rfl⟩
abbrev main_v249 : Ref sig .tc := ⟨.hbm, 251, rfl⟩
abbrev main_v250 : Ref sig .tc := ⟨.hbm, 252, rfl⟩
abbrev main_v251 : Ref sig .tc := ⟨.hbm, 253, rfl⟩
abbrev main_v252 : Ref sig .tc := ⟨.hbm, 254, rfl⟩
abbrev main_v253 : Ref sig .tc := ⟨.hbm, 255, rfl⟩
abbrev main_v254 : Ref sig .tc := ⟨.hbm, 256, rfl⟩
abbrev main_v255 : Ref sig .tc := ⟨.hbm, 257, rfl⟩
abbrev main_v256 : Ref sig .tc := ⟨.hbm, 258, rfl⟩
abbrev main_v257 : Ref sig .tc := ⟨.hbm, 259, rfl⟩
abbrev main_v258 : Ref sig .tc := ⟨.hbm, 260, rfl⟩
abbrev main_v259 : Ref sig .tc := ⟨.hbm, 261, rfl⟩
abbrev main_v260 : Ref sig .tc := ⟨.hbm, 262, rfl⟩
abbrev main_v261 : Ref sig .tc := ⟨.hbm, 263, rfl⟩
abbrev main_v262 : Ref sig .tc := ⟨.hbm, 264, rfl⟩
abbrev main_v263 : Ref sig .tc := ⟨.hbm, 265, rfl⟩
abbrev main_v264 : Ref sig .tc := ⟨.hbm, 266, rfl⟩
abbrev main_v265 : Ref sig .tc := ⟨.hbm, 267, rfl⟩
abbrev main_v266 : Ref sig .tc := ⟨.hbm, 268, rfl⟩
abbrev main_v267 : Ref sig .tc := ⟨.hbm, 269, rfl⟩
abbrev main_v268 : Ref sig .tc := ⟨.hbm, 270, rfl⟩
abbrev main_v269 : Ref sig .tc := ⟨.hbm, 271, rfl⟩
abbrev main_v270 : Ref sig .tc := ⟨.hbm, 272, rfl⟩
abbrev main_v271 : Ref sig .tc := ⟨.hbm, 273, rfl⟩
abbrev main_v272 : Ref sig .tc := ⟨.hbm, 274, rfl⟩
abbrev main_v273 : Ref sig .tc := ⟨.hbm, 275, rfl⟩
abbrev main_v274 : Ref sig .tc := ⟨.hbm, 276, rfl⟩
abbrev main_v275 : Ref sig .tc := ⟨.hbm, 277, rfl⟩
abbrev main_v276 : Ref sig .tc := ⟨.hbm, 278, rfl⟩
abbrev main_v277 : Ref sig .tc := ⟨.hbm, 279, rfl⟩
abbrev main_v278 : Ref sig .tc := ⟨.hbm, 280, rfl⟩
abbrev main_v279 : Ref sig .tc := ⟨.hbm, 281, rfl⟩
abbrev main_v280 : Ref sig .tc := ⟨.hbm, 282, rfl⟩
abbrev main_v281 : Ref sig .tc := ⟨.hbm, 283, rfl⟩
abbrev main_v282 : Ref sig .tc := ⟨.hbm, 284, rfl⟩
abbrev main_v283 : Ref sig .tc := ⟨.hbm, 285, rfl⟩
abbrev main_v284 : Ref sig .tc := ⟨.hbm, 286, rfl⟩
abbrev main_v285 : Ref sig .tc := ⟨.hbm, 287, rfl⟩
abbrev main_v286 : Ref sig .tc := ⟨.hbm, 288, rfl⟩
abbrev main_v287 : Ref sig .tc := ⟨.hbm, 289, rfl⟩
abbrev main_v288 : Ref sig .tc := ⟨.hbm, 290, rfl⟩
abbrev main_v289 : Ref sig .tc := ⟨.hbm, 291, rfl⟩
abbrev main_v290 : Ref sig .tc := ⟨.hbm, 292, rfl⟩
abbrev main_v291 : Ref sig .tc := ⟨.hbm, 293, rfl⟩
abbrev main_v292 : Ref sig .tc := ⟨.hbm, 294, rfl⟩
abbrev main_v293 : Ref sig .tc := ⟨.hbm, 295, rfl⟩
abbrev main_v294 : Ref sig .tc := ⟨.hbm, 296, rfl⟩
abbrev main_v295 : Ref sig .tc := ⟨.hbm, 297, rfl⟩
abbrev main_v296 : Ref sig .tc := ⟨.hbm, 298, rfl⟩
abbrev main_v297 : Ref sig .tc := ⟨.hbm, 299, rfl⟩
abbrev main_v298 : Ref sig .tc := ⟨.hbm, 300, rfl⟩
abbrev main_v299 : Ref sig .tc := ⟨.hbm, 301, rfl⟩
abbrev main_v300 : Ref sig .tc := ⟨.hbm, 302, rfl⟩
abbrev main_v301 : Ref sig .tc := ⟨.hbm, 303, rfl⟩
abbrev main_v302 : Ref sig .tc := ⟨.hbm, 304, rfl⟩
abbrev main_v303 : Ref sig .tc := ⟨.hbm, 305, rfl⟩
abbrev main_v304 : Ref sig .tc := ⟨.hbm, 306, rfl⟩
abbrev main_v305 : Ref sig .tc := ⟨.hbm, 307, rfl⟩
abbrev main_v306 : Ref sig .tc := ⟨.hbm, 308, rfl⟩
abbrev main_v307 : Ref sig .tc := ⟨.hbm, 309, rfl⟩
abbrev main_v308 : Ref sig .tc := ⟨.hbm, 310, rfl⟩
abbrev main_v309 : Ref sig .tc := ⟨.hbm, 311, rfl⟩
abbrev main_v310 : Ref sig .tc := ⟨.hbm, 312, rfl⟩
abbrev main_v311 : Ref sig .tc := ⟨.hbm, 313, rfl⟩
abbrev main_v312 : Ref sig .tc := ⟨.hbm, 314, rfl⟩
abbrev main_v313 : Ref sig .tc := ⟨.hbm, 315, rfl⟩
abbrev main_v314 : Ref sig .tc := ⟨.hbm, 316, rfl⟩
abbrev main_v315 : Ref sig .tc := ⟨.hbm, 317, rfl⟩
abbrev main_v316 : Ref sig .tc := ⟨.hbm, 318, rfl⟩
abbrev main_v317 : Ref sig .tc := ⟨.hbm, 319, rfl⟩
abbrev main_v318 : Ref sig .tc := ⟨.hbm, 320, rfl⟩
abbrev main_v319 : Ref sig .tc := ⟨.hbm, 321, rfl⟩
abbrev main_v320 : Ref sig .tc := ⟨.hbm, 322, rfl⟩
abbrev main_v321 : Ref sig .tc := ⟨.hbm, 323, rfl⟩
abbrev main_v322 : Ref sig .tc := ⟨.hbm, 324, rfl⟩
abbrev main_v323 : Ref sig .tc := ⟨.hbm, 325, rfl⟩
abbrev main_v324 : Ref sig .tc := ⟨.hbm, 326, rfl⟩
abbrev main_v325 : Ref sig .tc := ⟨.hbm, 327, rfl⟩
abbrev main_v326 : Ref sig .tc := ⟨.hbm, 328, rfl⟩
abbrev main_v327 : Ref sig .tc := ⟨.hbm, 329, rfl⟩
abbrev main_v328 : Ref sig .tc := ⟨.hbm, 330, rfl⟩
abbrev main_v329 : Ref sig .tc := ⟨.hbm, 331, rfl⟩
abbrev main_v330 : Ref sig .tc := ⟨.hbm, 332, rfl⟩
abbrev main_v331 : Ref sig .tc := ⟨.hbm, 333, rfl⟩
abbrev main_v332 : Ref sig .tc := ⟨.hbm, 334, rfl⟩
abbrev main_v333 : Ref sig .tc := ⟨.hbm, 335, rfl⟩
abbrev main_v334 : Ref sig .tc := ⟨.hbm, 336, rfl⟩
abbrev main_v335 : Ref sig .tc := ⟨.hbm, 337, rfl⟩
abbrev main_v336 : Ref sig .tc := ⟨.hbm, 338, rfl⟩
abbrev main_v337 : Ref sig .tc := ⟨.hbm, 339, rfl⟩
abbrev main_v338 : Ref sig .tc := ⟨.hbm, 340, rfl⟩

abbrev nD : Nat := 1
abbrev τ : Topo := Topo.v7x

variable {F : FTy → Type} [FloatOps F]
-- ==== Proof.KernelBody.lean ====
/- Hand-written, untrusted. What one call of the kernel's body does to the buffers it is handed: it runs to the end,
   with every input left as it was. Nothing is said here of what it stores. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 400000000 in
/-- The body's triple: on whole staging buffers, the inputs' at given contents and the output's and the scratch
    buffers' at any, the body runs, leaves the inputs as they were, and hands the others back at some contents. -/
theorem kernelRun0_A (c : Dev nD) (i : grid0.Coords) (arg1 : Memref sig .tc .vmem S64x4096 .i32) (harg1 : arg1.IsWhole) (arg2 : Memref sig .tc .vmem S512x1024 .i8) (harg2 : arg2.IsWhole) (arg3 : Memref sig .tc .vmem S512x64 .bf16) (harg3 : arg3.IsWhole) (arg4 : Memref sig .tc .vmem S512x64 .bf16) (harg4 : arg4.IsWhole) (arg5 : Memref sig .tc .vmem S128x512 .bf16) (harg5 : arg5.IsWhole) (arg6 : Memref sig .tc .vmem S4x64x128 .i32) (harg6 : arg6.IsWhole) (arg7 : Memref sig .tc .vmem S4x64x128 .i32) (harg7 : arg7.IsWhole)
    (x0 : Vec F S64x4096 .i32) (x1 : Vec F S512x1024 .i8) (x2 : Vec F S512x64 .bf16) (x3 : Vec F S512x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_matmul i arg1 harg1 arg2 harg2 arg3 harg3 arg4 harg4 arg5 harg5 arg6 harg6 arg7 harg7) K := by
    intro E K
    simp only [cc0_matmul_eq_skeleton]; unfold cc0_matmul_skel
    simp only [
      k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton, k0_part53_eq_skeleton, k0_part54_eq_skeleton,
      k0_part55_eq_skeleton, k0_part56_eq_skeleton, k0_part57_eq_skeleton, k0_part58_eq_skeleton,
      k0_part59_eq_skeleton, k0_part60_eq_skeleton, k0_part61_eq_skeleton, k0_part62_eq_skeleton,
      k0_part63_eq_skeleton, k0_part64_eq_skeleton, k0_part65_eq_skeleton, k0_part66_eq_skeleton,
      k0_part67_eq_skeleton, k0_part68_eq_skeleton, k0_part69_eq_skeleton, k0_part70_eq_skeleton,
      k0_part71_eq_skeleton, k0_part72_eq_skeleton, k0_part73_eq_skeleton, k0_part74_eq_skeleton,
      k0_part75_eq_skeleton, k0_part76_eq_skeleton, k0_part77_eq_skeleton, k0_part78_eq_skeleton,
      k0_part79_eq_skeleton, k0_part80_eq_skeleton, k0_part81_eq_skeleton, k0_part82_eq_skeleton,
      k0_part83_eq_skeleton, k0_part84_eq_skeleton, k0_part85_eq_skeleton, k0_part86_eq_skeleton,
      k0_part87_eq_skeleton, k0_part88_eq_skeleton, k0_part89_eq_skeleton, k0_part90_eq_skeleton,
      k0_part91_eq_skeleton, k0_part92_eq_skeleton, k0_part93_eq_skeleton, k0_part94_eq_skeleton,
      k0_part95_eq_skeleton, k0_part96_eq_skeleton, k0_part97_eq_skeleton, k0_part98_eq_skeleton,
      k0_part99_eq_skeleton, k0_part100_eq_skeleton, k0_part101_eq_skeleton, k0_part102_eq_skeleton,
      k0_part103_eq_skeleton, k0_part104_eq_skeleton, k0_part105_eq_skeleton, k0_part106_eq_skeleton,
      k0_part107_eq_skeleton, k0_part108_eq_skeleton, k0_part109_eq_skeleton, k0_part110_eq_skeleton,
      k0_part111_eq_skeleton, k0_part112_eq_skeleton, k0_part113_eq_skeleton, k0_part114_eq_skeleton,
      k0_part115_eq_skeleton, k0_part116_eq_skeleton, k0_part117_eq_skeleton, k0_part118_eq_skeleton,
      k0_part119_eq_skeleton, k0_part120_eq_skeleton, k0_part121_eq_skeleton, k0_part122_eq_skeleton,
      k0_part123_eq_skeleton, k0_part124_eq_skeleton, k0_part125_eq_skeleton, k0_part126_eq_skeleton,
      k0_part127_eq_skeleton, k0_part128_eq_skeleton, k0_part129_eq_skeleton, k0_part130_eq_skeleton,
      k0_part131_eq_skeleton, k0_part132_eq_skeleton, k0_part133_eq_skeleton, k0_part134_eq_skeleton,
      k0_part135_eq_skeleton, k0_part136_eq_skeleton, k0_part137_eq_skeleton, k0_part138_eq_skeleton,
      k0_part139_eq_skeleton, k0_part140_eq_skeleton, k0_part141_eq_skeleton, k0_part142_eq_skeleton,
      k0_part143_eq_skeleton, k0_part144_eq_skeleton, k0_part145_eq_skeleton, k0_part146_eq_skeleton,
      k0_part147_eq_skeleton, k0_part148_eq_skeleton, k0_part149_eq_skeleton, k0_part150_eq_skeleton,
      k0_part151_eq_skeleton, k0_part152_eq_skeleton, k0_part153_eq_skeleton, k0_part154_eq_skeleton,
      k0_part155_eq_skeleton, k0_part156_eq_skeleton, k0_part157_eq_skeleton, k0_part158_eq_skeleton,
      k0_part159_eq_skeleton, k0_part160_eq_skeleton, k0_part161_eq_skeleton, k0_part162_eq_skeleton,
      k0_part163_eq_skeleton, k0_part164_eq_skeleton, k0_part165_eq_skeleton, k0_part166_eq_skeleton,
      k0_part167_eq_skeleton, k0_part168_eq_skeleton, k0_part169_eq_skeleton, k0_part170_eq_skeleton,
      k0_part171_eq_skeleton, k0_part172_eq_skeleton, k0_part173_eq_skeleton, k0_part174_eq_skeleton,
      k0_part175_eq_skeleton, k0_part176_eq_skeleton, k0_part177_eq_skeleton, k0_part178_eq_skeleton,
      k0_part179_eq_skeleton, k0_part180_eq_skeleton, k0_part181_eq_skeleton, k0_part182_eq_skeleton,
      k0_part183_eq_skeleton, k0_part184_eq_skeleton, k0_part185_eq_skeleton, k0_part186_eq_skeleton,
      k0_part187_eq_skeleton, k0_part188_eq_skeleton, k0_part189_eq_skeleton, k0_part190_eq_skeleton,
      k0_part191_eq_skeleton, k0_part192_eq_skeleton, k0_part193_eq_skeleton, k0_part194_eq_skeleton,
      k0_part195_eq_skeleton, k0_part196_eq_skeleton, k0_part197_eq_skeleton, k0_part198_eq_skeleton,
      k0_part199_eq_skeleton, k0_part200_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Hand

end
-- ==== Proof.KernelFrame.lean ====
/- Hand-written, untrusted. The frame claim of the kernel: every run ends, the argument arrays unchanged and every
   semaphore counter at zero. -/
module

public import proofs.«01_k».proof.Proof.KernelBody
public import Idealize.ShloMosaic.Lib.Claim

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The argument arrays are unchanged, of any run to the post of a frame whose output is not named. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-- Each window's current staging memref at point `t`, spelled as the pipeline passes it (`bodyAt0`), and its wholeness. -/
abbrev ms0_0 (t : Fin cfg0.N) : Memref sig .tc .vmem S64x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S4x64x128 .i32 := Memref.whole cc0_scratch0
abbrev scM0_1 : Memref sig .tc .vmem S4x64x128 .i32 := Memref.whole cc0_scratch1

/-- The invariant of the frame: the two scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The output window (4) is forgotten: nothing is said of what the kernel leaves in it. -/
def forgets0 : Fin 5 → Bool := fun w => w.val == 4

/-- The proof data on core `c`: the arrays as the region finds them; after the body each input's buffer at its block;
    the invariant owns the scratch buffers and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the contents the region is entered with. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point: the inputs' buffers hold their blocks, so its triple applies; the invariant lends the
    scratch buffers and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every run of @main ends, with the input arrays unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of @main ends with the input arrays unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forgotten m ρ (fun c => (dats m 0 c).toRForget forgets0) (A_eq m) (run_main m ρ)

/-- The frame claim: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Model.lean ====
/- Hand-written, untrusted. What one call of the kernel's body computes, written as a function of the blocks it is
   handed: the tile of dequantised weights for each of the sixteen slices of the contraction and each half of the
   columns, the chain of passes through the two matrix units, and the block it stores. -/
module

public import proofs.«01_k».proof.Proof.Gen.KernelIdeal
public import Idealize.ShloMosaic.Lib.Pipeline.FrameBody
public import Idealize.ShloMosaic.Lib.Mxu

@[expose] public section

noncomputable section

namespace Cert.KernelIdeal.Hand

open Idealize.ShloMosaic Idealize.SL.Sem
open Cert.KernelIdeal Cert.KernelIdeal.Gen

variable {F : FTy → Type} [FloatOps F]

/-! ## The scale and zero rows -/

/-- One slab of the scale or zero table: the 128 rows turned into lanes, each entry in both halves of its word. -/
def slab (v : Vec F S128x64 .bf16) : Vec F S1x64x2x128 .bf16 :=
  have t : FVec F S64x128 .f32 := transpose S64x128 [1, 0] (extf .f32 v bitsLt_bf16_f32) transposes_S128x64_p1_0_S64x128
  have h : FVec F S1x64x1x128 .bf16 :=
    shapeCast S1x64x1x128 (shapeCast S1x64x128 (truncf .bf16 t bitsLt_bf16_f32 : FVec F S64x128 .bf16) shapeCasts_S64x128_S1x64x128)
      shapeCasts_S1x64x128_S1x64x1x128
  interleaveRows S1x64x2x128 h h bitcasts_S1x64x2x128_w16_S1x64x1x128_w32

/-- Slab `nb`'s rows of the scale or zero block, and its place in the table. -/
def slabSrc (nb : Fin 4) : Rect S512x64 :=
  Rect.unit (s := S512x64) ![128 * nb.val, 0] S128x64.size (by revert nb; decide)
def slabDst (nb : Fin 4) : Rect S4x64x2x128 :=
  Rect.unit (s := S4x64x2x128) ![nb.val, 0, 0, 0] S1x64x2x128.size (by revert nb; decide)

/-- The table the body lays out from a scale or zero block. -/
def table (x : Vec F S512x64 .bf16) : Vec F S4x64x2x128 .bf16 :=
  View.canon [⟨slabDst 3, slab (View.ld x (slabSrc 3))⟩, ⟨slabDst 2, slab (View.ld x (slabSrc 2))⟩,
    ⟨slabDst 1, slab (View.ld x (slabSrc 1))⟩, ⟨slabDst 0, slab (View.ld x (slabSrc 0))⟩]

/-- One row of words of a table: slab `nb`, group `g`. -/
def rowRect (nb : Fin 4) (g : Fin 64) : Rect S4x64x2x128 :=
  Rect.unit (s := S4x64x2x128) ![nb.val, g.val, 0, 0] S1x1x2x128.size
    (by intro a; have := nb.isLt; have := g.isLt; fin_cases a <;> simp <;> omega)

/-- A table's rows, by slab and group. -/
def rows (t : Vec F S4x64x2x128 .bf16) (nb : Fin 4) (g : Fin 64) : Vec F S1x1x2x128 .bf16 := View.ld t (rowRect nb g)

/-- The row's first half, repeated sixteen times. -/
def bcast (v : Vec F S1x1x2x128 .bf16) : FVec F S16x128 .bf16 :=
  have lo : FVec F S1x128 .bf16 := shapeCast S1x128 (shapeCast S1x1x128 (rowsOfParity 0 S1x1x1x128 v bitcasts_S1x1x2x128_w16_S1x1x1x128_w32)
    shapeCasts_S1x1x1x128_S1x1x128) shapeCasts_S1x1x128_S1x128
  have hi : FVec F S1x128 .bf16 := shapeCast S1x128 (shapeCast S1x1x128 (rowsOfParity 1 S1x1x1x128 v bitcasts_S1x1x2x128_w16_S1x1x1x128_w32)
    shapeCasts_S1x1x1x128_S1x1x128) shapeCasts_S1x1x128_S1x128
  have w : FVec F S2x128 .bf16 := interleaveRows S2x128 lo hi bitcasts_S2x128_w16_S1x128_w32
  broadcastTo S16x128 (shapeCast S1x128 (extractStridedSlice S1x128 ![0, 0] w slices_S2x128_o0_0_S1x128)
    shapeCasts_S1x128_S1x128) broadcasts_S1x128_S16x128

/-! ## The codes -/

/-- The shift of each of a word's eight nibbles. -/
def shifts : IVec S8x8x128 32 :=
  muli (broadcast S8x8x128 4#32) (iota .tc S8x8x128 32 [1] iota_S8x8x128_d1_w32)

/-- The words of a 128 by 128 tile of code bytes, turned so that a word holds four bytes of one weight row. -/
def words (v : Vec F S128x128 .i8) : IVec S32x128 32 :=
  have t : IVec S128x128 8 := transpose S128x128 [1, 0] v transposes_S128x128_p1_0_S128x128
  bitcast S32x128 32 t bitcasts_S128x128_w8_S32x128_w32

/-- Eight of its rows. -/
def wordRows (t : IVec S32x128 32) (v : Fin 4) : IVec S8x128 32 :=
  extractStridedSlice S8x128 ![8 * v.val, 0] t (by revert v; decide)

/-- The low (`p = 0`) or high two bits of each nibble. -/
def crumbs (w : IVec S8x128 32) (p : Fin 2) : IVec S8x128 32 :=
  match p with
  | 0 => andi w (broadcast S8x128 858993459#32)
  | 1 => andi (shrui w (broadcast S8x128 2#32)) (broadcast S8x128 858993459#32)

/-- The nibbles, one to a row, as floats. -/
def nibs (a : IVec S8x128 32) : FVec F S64x128 .bf16 :=
  sitofp .bf16 (shapeCast S64x128
    (andi (shrui (broadcastTo S8x8x128 (shapeCast S8x1x128 (shapeCast S8x1x128 a shapeCasts_S8x128_S8x1x128)
      shapeCasts_S8x1x128_S8x1x128) broadcasts_S8x1x128_S8x8x128) shifts) (broadcast S8x8x128 15#32)) shapeCasts_S8x8x128_S64x128)

/-- Sixteen rows of dequantised weights: `(code − zero) · scale`. -/
def piece (u : FVec F S64x128 .bf16) (q : Fin 4) (z s : FVec F S16x128 .bf16) : FVec F S16x128 .bf16 :=
  mulf (subf (extractStridedSlice S16x128 ![16 * q.val, 0] u (by revert q; decide)) z) s

/-! ## The weight tile -/

/-- The group a row of the tile belongs to. -/
def grp (jb : Fin 8) (cc e g : Fin 2) : Fin 64 :=
  ⟨2 * (4 * jb.val + (2 * cc.val + e.val)) + g.val, by omega⟩

/-- Below, `zr` and `sr` are the zero table's and the scale table's rows, by slab and group. The sixteen rows `q` of crumb `p` of the `e`-th eight words of half `cc`. -/
def part (zr sr : Fin 4 → Fin 64 → Vec F S1x1x2x128 .bf16) (t : IVec S32x128 32) (jb : Fin 8) (cc : Fin 2) (nb : Fin 4) (e p : Fin 2) (q : Fin 4) :
    FVec F S16x128 .bf16 :=
  piece (nibs (crumbs (wordRows t ⟨2 * cc.val + e.val, by omega⟩) p)) q
    (bcast (zr nb (grp jb cc e ⟨q.val / 2, by omega⟩)))
    (bcast (sr nb (grp jb cc e ⟨q.val / 2, by omega⟩)))

/-- Where a tile of code bytes is read. -/
def codeRect (nb : Fin 4) (jb : Fin 8) : Rect S512x1024 :=
  Rect.unit (s := S512x1024) ![128 * nb.val, 128 * jb.val] S128x128.size
    (by intro a; have := nb.isLt; have := jb.isLt; fin_cases a <;> simp <;> omega)

/-- 128 columns of the weight tile of one slice of the contraction: 256 rows in sixteen pieces. -/
def cols (x1 : Vec F S512x1024 .i8) (zr sr : Fin 4 → Fin 64 → Vec F S1x1x2x128 .bf16) (jb : Fin 8) (cc : Fin 2) (nb : Fin 4) : FVec F S256x128 .bf16 :=
  have t : IVec S32x128 32 := words (F := F) (View.ld x1 (codeRect nb jb))
  concatenate S256x128 0
    [⟨S16x128, part zr sr t jb cc nb 0 0 0⟩, ⟨S16x128, part zr sr t jb cc nb 0 0 1⟩, ⟨S16x128, part zr sr t jb cc nb 0 0 2⟩, ⟨S16x128, part zr sr t jb cc nb 0 0 3⟩,
      ⟨S16x128, part zr sr t jb cc nb 0 1 0⟩, ⟨S16x128, part zr sr t jb cc nb 0 1 1⟩, ⟨S16x128, part zr sr t jb cc nb 0 1 2⟩, ⟨S16x128, part zr sr t jb cc nb 0 1 3⟩,
      ⟨S16x128, part zr sr t jb cc nb 1 0 0⟩, ⟨S16x128, part zr sr t jb cc nb 1 0 1⟩, ⟨S16x128, part zr sr t jb cc nb 1 0 2⟩, ⟨S16x128, part zr sr t jb cc nb 1 0 3⟩,
      ⟨S16x128, part zr sr t jb cc nb 1 1 0⟩, ⟨S16x128, part zr sr t jb cc nb 1 1 1⟩, ⟨S16x128, part zr sr t jb cc nb 1 1 2⟩, ⟨S16x128, part zr sr t jb cc nb 1 1 3⟩]
    concatenates_S16x128_S16x128_S16x128_S16x128_S16x128_S16x128_S16x128_S16x128_S16x128_S16x128_S16x128_S16x128_S16x128_S16x128_S16x128_S16x128_S256x128_d0

/-- The 256 by 256 tile of one slice of the contraction, for matrix unit `mm`. -/
def tile (x1 : Vec F S512x1024 .i8) (zr sr : Fin 4 → Fin 64 → Vec F S1x1x2x128 .bf16) (jb : Fin 8) (cc mm : Fin 2) : FVec F S256x256 .bf16 :=
  concatenate S256x256 1 [⟨S256x128, cols x1 zr sr jb cc ⟨2 * mm.val, by omega⟩⟩, ⟨S256x128, cols x1 zr sr jb cc ⟨2 * mm.val + 1, by omega⟩⟩]
    concatenates_S256x128_S256x128_S256x256_d1

/-! ## The passes -/

/-- Where the left-hand slice of words is read. -/
def lhsRect (jb : Fin 8) (cc : Fin 2) : Rect S64x4096 :=
  Rect.unit (s := S64x4096) ![0, 256 * (2 * jb.val + cc.val)] S64x256.size
    (by intro a; have := jb.isLt; have := cc.isLt; fin_cases a <;> simp <;> omega)

/-- The slice of words read as pairs of floats, one above the other. -/
def unpack (v : Vec F S64x256 .i32) : FVec F S128x256 .bf16 :=
  bitcastToFloat .bf16 (bitcast S128x256 16 v bitcasts_S64x256_w32_S128x256_w16)

/-- One slice on one unit: stage the tile, load it, deposit the pass. -/
def stepOne (x0 : Vec F S64x4096 .i32) (x1 : Vec F S512x1024 .i8) (zr sr : Fin 4 → Fin 64 → Vec F S1x1x2x128 .bf16) (s : Mxu F) (jb : Fin 8) (cc mm : Fin 2) : Mxu F :=
  (s.pushed mm cc false (tile x1 zr sr jb cc mm)).accLhs mm cc 0 (unpack (View.ld x0 (lhsRect jb cc))) fits_0_128

/-- One slice on both units, and two slices. -/
def stepBoth (x0 : Vec F S64x4096 .i32) (x1 : Vec F S512x1024 .i8) (zr sr : Fin 4 → Fin 64 → Vec F S1x1x2x128 .bf16) (s : Mxu F) (jb : Fin 8) (cc : Fin 2) : Mxu F :=
  stepOne x0 x1 zr sr (stepOne x0 x1 zr sr s jb cc 0) jb cc 1
def stepFour (x0 : Vec F S64x4096 .i32) (x1 : Vec F S512x1024 .i8) (zr sr : Fin 4 → Fin 64 → Vec F S1x1x2x128 .bf16) (s : Mxu F) (jb : Fin 8) : Mxu F :=
  stepBoth x0 x1 zr sr (stepBoth x0 x1 zr sr s jb 0) jb 1

/-- The state after all sixteen slices. -/
def passes (x0 : Vec F S64x4096 .i32) (x1 : Vec F S512x1024 .i8) (zr sr : Fin 4 → Fin 64 → Vec F S1x1x2x128 .bf16) : Mxu F :=
  stepFour x0 x1 zr sr (stepFour x0 x1 zr sr (stepFour x0 x1 zr sr (stepFour x0 x1 zr sr (stepFour x0 x1 zr sr
    (stepFour x0 x1 zr sr (stepFour x0 x1 zr sr (stepFour x0 x1 zr sr Mxu.init 0) 1) 2) 3) 4) 5) 6) 7

/-- The two halves of the output block. -/
def outRect (mm : Fin 2) : Rect S128x512 :=
  Rect.unit (s := S128x512) ![0, 256 * mm.val] S128x256.size (by revert mm; decide)

/-- What the body leaves in its output block. -/
def out (x0 : Vec F S64x4096 .i32) (x1 : Vec F S512x1024 .i8) (zr sr : Fin 4 → Fin 64 → Vec F S1x1x2x128 .bf16) : Vec F S128x512 .bf16 :=
  have s : Mxu F := passes x0 x1 zr sr
  View.canon [⟨outRect 1, (truncf .bf16 ((s.pop 0 0 128 fits_0_128).read 1 0 fits_0_128) bitsLt_bf16_f32 : FVec F S128x256 .bf16)⟩,
    ⟨outRect 0, (truncf .bf16 (s.read 0 0 fits_0_128) bitsLt_bf16_f32 : FVec F S128x256 .bf16)⟩]

/-- The two halves cover the block. -/
theorem out_cover (w0 : (outRect 0).shape.Idx → Elt F .bf16) (w1 : (outRect 1).shape.Idx → Elt F .bf16) :
    ∀ y, ∃ p ∈ ([⟨outRect 1, w1⟩, ⟨outRect 0, w0⟩] : List (View.Piece (Elt F) S128x512 .bf16)), y ∈ p.1.set :=
  View.cover_of_tiled _ S128x256.size (by rfl)

end Cert.KernelIdeal.Hand

end
-- ==== Proof.IdealBody.lean ====
/- Hand-written, untrusted. What one call of the kernel's body does to the buffers it is handed: it runs to the end,
   leaves every input as it was, and stores the block `out` of the inputs. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import proofs.«01_k».proof.Proof.Model

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of a table, read one load at a time. -/
theorem rows_idx (t : Vec F S4x64x2x128 .bf16) (nb : Fin 4) (g : Fin 64) :
    (fun j => t ((rowRect nb g).toLoadRect.idx j)) = rows t nb g := rfl

/-- Loads of a scratch buffer the table's four slabs were stored to read the table's rows. -/
theorem rows_of (v : View sig .tc .vmem S4x64x2x128 .bf16) (L : List (View.Piece (Elt F) S4x64x2x128 .bf16)) (x : Vec F S512x64 .bf16)
    (h : L = [⟨slabDst 3, slab (View.ld x (slabSrc 3))⟩, ⟨slabDst 2, slab (View.ld x (slabSrc 2))⟩,
      ⟨slabDst 1, slab (View.ld x (slabSrc 1))⟩, ⟨slabDst 0, slab (View.ld x (slabSrc 0))⟩]) :
    (fun nb g => v.readCov L (rowRect nb g).toLoadRect) = rows (table x) := by
  subst h
  funext nb g
  exact (View.readCov_eq_canon' _ _ _).trans (rows_idx (table x) nb g)

/-- One slice on one unit: the tile pushed, then the slice's left value accumulated against it. -/
theorem step_eq (x0 : Vec F S64x4096 .i32) (x1 : Vec F S512x1024 .i8) (zr sr : Fin 4 → Fin 64 → Vec F S1x1x2x128 .bf16) (jb : Fin 8) (cc mm : Fin 2)
    {s s' : Mxu F} {t : FVec F S256x256 .bf16} {l : FVec F S128x256 .bf16}
    (hs : s = s') (ht : t = tile x1 zr sr jb cc mm) (hl : l = unpack (View.ld x0 (lhsRect jb cc))) :
    (s.pushed mm cc false t).accLhs mm cc 0 l fits_0_128 = stepOne x0 x1 zr sr s' jb cc mm := by
  subst hs ht hl; rfl

/-- The two stores, from the state after the last slice. -/
theorem out_of (x0 : Vec F S64x4096 .i32) (x1 : Vec F S512x1024 .i8) (zr sr : Fin 4 → Fin 64 → Vec F S1x1x2x128 .bf16) {s : Mxu F}
    (hs : s = passes x0 x1 zr sr) :
    View.canon [⟨outRect 1, k0_pay4 ((s.pop 0 0 128 fits_0_128).read 1 0 fits_0_128)⟩, ⟨outRect 0, k0_pay3 (s.read 0 0 fits_0_128)⟩]
      = out x0 x1 zr sr := by
  subst hs; rfl

set_option maxHeartbeats 400000000 in
/-- The body's triple: on whole staging buffers, the inputs' at given contents and the output's and the scratch
    buffers' at any, the body runs, leaves the inputs as they were, stores
    the block `out` of them, and hands the scratch buffers back at some contents. -/
theorem kernelRun0_A (c : Dev nD) (i : grid0.Coords) (arg1 : Memref sig .tc .vmem S64x4096 .i32) (harg1 : arg1.IsWhole) (arg2 : Memref sig .tc .vmem S512x1024 .i8) (harg2 : arg2.IsWhole) (arg3 : Memref sig .tc .vmem S512x64 .bf16) (harg3 : arg3.IsWhole) (arg4 : Memref sig .tc .vmem S512x64 .bf16) (harg4 : arg4.IsWhole) (arg5 : Memref sig .tc .vmem S128x512 .bf16) (harg5 : arg5.IsWhole) (arg6 : Memref sig .tc .vmem S4x64x2x128 .bf16) (harg6 : arg6.IsWhole) (arg7 : Memref sig .tc .vmem S4x64x2x128 .bf16) (harg7 : arg7.IsWhole)
    (x0 : Vec F S64x4096 .i32) (x1 : Vec F S512x1024 .i8) (x2 : Vec F S512x64 .bf16) (x3 : Vec F S512x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out x0 x1 (rows (table x3)) (rows (table x2))) ∗ (∃ d, owns (c : Thread nD τ) arg6 fullShare d) ∗ (∃ d, owns (c : Thread nD τ) arg7 fullShare d)) -∗ K ⟨⟩))
          ⊢ wp frame (wpE (defs₀ (F := F)) Variants.none c none) E (cc0_matmul i arg1 harg1 arg2 harg2 arg3 harg3 arg4 harg4 arg5 harg5 arg6 harg6 arg7 harg7) K := by
    intro E K
    simp only [cc0_matmul_eq_skeleton]; unfold cc0_matmul_skel
    simp only [
      k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton, k0_part53_eq_skeleton, k0_part54_eq_skeleton,
      k0_part55_eq_skeleton, k0_part56_eq_skeleton, k0_part57_eq_skeleton, k0_part58_eq_skeleton,
      k0_part59_eq_skeleton, k0_part60_eq_skeleton, k0_part61_eq_skeleton, k0_part62_eq_skeleton,
      k0_part63_eq_skeleton, k0_part64_eq_skeleton, k0_part65_eq_skeleton, k0_part66_eq_skeleton,
      k0_part67_eq_skeleton, k0_part68_eq_skeleton, k0_part69_eq_skeleton, k0_part70_eq_skeleton,
      k0_part71_eq_skeleton, k0_part72_eq_skeleton, k0_part73_eq_skeleton, k0_part74_eq_skeleton,
      k0_part75_eq_skeleton, k0_part76_eq_skeleton, k0_part77_eq_skeleton, k0_part78_eq_skeleton,
      k0_part79_eq_skeleton, k0_part80_eq_skeleton, k0_part81_eq_skeleton, k0_part82_eq_skeleton,
      k0_part83_eq_skeleton, k0_part84_eq_skeleton, k0_part85_eq_skeleton, k0_part86_eq_skeleton,
      k0_part87_eq_skeleton, k0_part88_eq_skeleton, k0_part89_eq_skeleton, k0_part90_eq_skeleton,
      k0_part91_eq_skeleton, k0_part92_eq_skeleton, k0_part93_eq_skeleton, k0_part94_eq_skeleton,
      k0_part95_eq_skeleton, k0_part96_eq_skeleton, k0_part97_eq_skeleton, k0_part98_eq_skeleton,
      k0_part99_eq_skeleton, k0_part100_eq_skeleton, k0_part101_eq_skeleton, k0_part102_eq_skeleton,
      k0_part103_eq_skeleton, k0_part104_eq_skeleton, k0_part105_eq_skeleton, k0_part106_eq_skeleton,
      k0_part107_eq_skeleton, k0_part108_eq_skeleton, k0_part109_eq_skeleton, k0_part110_eq_skeleton,
      k0_part111_eq_skeleton, k0_part112_eq_skeleton, k0_part113_eq_skeleton, k0_part114_eq_skeleton,
      k0_part115_eq_skeleton, k0_part116_eq_skeleton, k0_part117_eq_skeleton, k0_part118_eq_skeleton,
      k0_part119_eq_skeleton, k0_part120_eq_skeleton, k0_part121_eq_skeleton, k0_part122_eq_skeleton,
      k0_part123_eq_skeleton, k0_part124_eq_skeleton, k0_part125_eq_skeleton, k0_part126_eq_skeleton,
      k0_part127_eq_skeleton, k0_part128_eq_skeleton, k0_part129_eq_skeleton, k0_part130_eq_skeleton,
      k0_part131_eq_skeleton, k0_part132_eq_skeleton, k0_part133_eq_skeleton, k0_part134_eq_skeleton,
      k0_part135_eq_skeleton, k0_part136_eq_skeleton, k0_part137_eq_skeleton, k0_part138_eq_skeleton,
      k0_part139_eq_skeleton, k0_part140_eq_skeleton, k0_part141_eq_skeleton, k0_part142_eq_skeleton,
      k0_part143_eq_skeleton, k0_part144_eq_skeleton, k0_part145_eq_skeleton, k0_part146_eq_skeleton,
      k0_part147_eq_skeleton, k0_part148_eq_skeleton, k0_part149_eq_skeleton, k0_part150_eq_skeleton,
      k0_part151_eq_skeleton, k0_part152_eq_skeleton, k0_part153_eq_skeleton, k0_part154_eq_skeleton,
      k0_part155_eq_skeleton, k0_part156_eq_skeleton, k0_part157_eq_skeleton, k0_part158_eq_skeleton,
      k0_part159_eq_skeleton, k0_part160_eq_skeleton, k0_part161_eq_skeleton, k0_part162_eq_skeleton,
      k0_part163_eq_skeleton, k0_part164_eq_skeleton, k0_part165_eq_skeleton, k0_part166_eq_skeleton,
      k0_part167_eq_skeleton, k0_part168_eq_skeleton, k0_part169_eq_skeleton, k0_part170_eq_skeleton,
      k0_part171_eq_skeleton, k0_part172_eq_skeleton, k0_part173_eq_skeleton, k0_part174_eq_skeleton,
      k0_part175_eq_skeleton, k0_part176_eq_skeleton, k0_part177_eq_skeleton, k0_part178_eq_skeleton,
      k0_part179_eq_skeleton, k0_part180_eq_skeleton, k0_part181_eq_skeleton, k0_part182_eq_skeleton,
      k0_part183_eq_skeleton, k0_part184_eq_skeleton, k0_part185_eq_skeleton, k0_part186_eq_skeleton,
      k0_part187_eq_skeleton, k0_part188_eq_skeleton, k0_part189_eq_skeleton, k0_part190_eq_skeleton,
      k0_part191_eq_skeleton, k0_part192_eq_skeleton, k0_part193_eq_skeleton, k0_part194_eq_skeleton,
      k0_part195_eq_skeleton, k0_part196_eq_skeleton, k0_part197_eq_skeleton, k0_part198_eq_skeleton,
      k0_part199_eq_skeleton, k0_part200_eq_skeleton, k0_part201_eq_skeleton, k0_part202_eq_skeleton,
      k0_part203_eq_skeleton, k0_part204_eq_skeleton, k0_part205_eq_skeleton, k0_part206_eq_skeleton,
      k0_part207_eq_skeleton, k0_part208_eq_skeleton, k0_part209_eq_skeleton, k0_part210_eq_skeleton,
      k0_part211_eq_skeleton, k0_part212_eq_skeleton, k0_part213_eq_skeleton, k0_part214_eq_skeleton,
      k0_part215_eq_skeleton, k0_part216_eq_skeleton, k0_part217_eq_skeleton, k0_part218_eq_skeleton,
      k0_part219_eq_skeleton, k0_part220_eq_skeleton, k0_part221_eq_skeleton, k0_part222_eq_skeleton,
      k0_part223_eq_skeleton, k0_part224_eq_skeleton, k0_part225_eq_skeleton, k0_part226_eq_skeleton,
      k0_part227_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    subst hf0 hf1 hf2 hf3
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      refine (View.read_writes_eq_canon _ _ _ (out_cover _ _)).trans ?_
      refine (out_of (View.read (Elt F) arg1.view f0) (View.read (Elt F) arg2.view f1)
        (fun nb g => arg6.view.readCov (kernelRun0_A.sl.HS0_4 c arg4 f3) (rowRect nb g).toLoadRect)
        (fun nb g => arg7.view.readCov (kernelRun0_A.sl.HS1_4 c arg3 f2) (rowRect nb g).toLoadRect) ?_).trans
        (congrArg₂ (out (View.read (Elt F) arg1.view f0) (View.read (Elt F) arg2.view f1))
          (rows_of _ _ (View.read (Elt F) arg4.view f3) rfl) (rows_of _ _ (View.read (Elt F) arg3.view f2) rfl))
      unfold passes stepFour stepBoth
      iterate 32 refine step_eq _ _ _ _ _ _ _ ?_ rfl rfl
      rfl
    isplitl [HS0]
    · iexists _, _; isplitr; swap; · iexact HS0
      ipureintro; rfl
    iexists _, _; isplitr; swap; · iexact HS1
    ipureintro; rfl

end Cert.KernelIdeal.Hand

end
-- ==== Proof.IdealFrame.lean ====
/- Hand-written, untrusted. The frame claim of the kernel: every run ends, the argument arrays unchanged and every
   semaphore counter at zero. -/
module

public import proofs.«01_k».proof.Proof.IdealBody
public import Idealize.ShloMosaic.Lib.Claim

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S64x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S4x64x2x128 .bf16 := Memref.whole cc0_scratch0
abbrev scM0_1 : Memref sig .tc .vmem S4x64x2x128 .bf16 := Memref.whole cc0_scratch1

/-- The invariant of the frame: the two scratch buffers owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The proof data on core `c`: the arrays as the region finds them; after the body each input's buffer at its block and the output's
    at what the body computes from the blocks;
    the invariant owns the scratch buffers and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (iblk m c 0 t) (iblk m c 1 t) (rows (table (iblk m c 3 t))) (rows (table (iblk m c 2 t)))
  Φ _ := Pipeline.ΦA spec0 c
  q _ := fullShare
  owed _ := 0

/-- The proof data's arrays are the contents the region is entered with. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out (iblk m c 0 t) (iblk m c 1 t) (rows (table (iblk m c 3 t))) (rows (table (iblk m c 2 t))) := by
  dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' buffers hold their blocks, so its triple applies; the invariant lends the
    scratch buffers and takes them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- Every run of @main ends, with every array at what the proof data gives and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of @main ends with every array at what the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Passes.lean ====
/- Hand-written, untrusted. The chain of passes at the extended reals: each half of the block the body stores holds,
   at a row and a column, the sum over the sixteen slices of the contraction of the products of that row of the
   unpacked activations with that column of the weight tile. -/
module

public import proofs.«01_k».proof.Proof.Model
public import Idealize.ShloMosaic.Lib.Mxu.Lemmas
public import Idealize.ShloMosaic.Lib.MatmulPlain

@[expose] public section

noncomputable section

namespace Cert.KernelIdeal.Hand

open Idealize.ShloMosaic Idealize.ShloMosaic.ValueIdx Idealize.SL.Sem
open Cert.KernelIdeal Cert.KernelIdeal.Gen
open scoped BigOperators

/-- A pass at a row and a column. -/
theorem pass_apply (lhs : FVec Ideal S128x256 .bf16) (w : FVec Ideal S256x256 .bf16) (r : Fin 128) (n : Fin 256) :
    (FloatOps.mxuPass (DotDims.plain 128 256 256) lhs w : FVec Ideal S128x256 .f32) (ix2 r n) = ∑ κ : Fin 256, lhs (ix2 r κ) * w (ix2 κ n) := by
  have h := Ideal.matmul_plain_apply (φ₁ := .bf16) (φ₂ := .bf16) none lhs w (fun _ => (0 : EReal)) r n
  rw [zero_add] at h
  rw [← h]
  exact (zero_add _).symm

/-- An accumulate adds its pass to what the rows held, live or not: a row not live holds zero. -/
theorem deposit_add (s : Mxu Ideal) (q : Fin 2) (R : Fin 1024) (C : Fin 256) (x : Ideal .f32) :
    Mxu.deposit (s.live q R) (s.acc q R C) x = (s.acc q R C + x : EReal) := by
  cases h : s.live q R with
  | true => rfl
  | false =>
    rw [s.clean q R C h]
    show x = Ideal.ofBits .f32 0 + x
    rw [show (Ideal.ofBits .f32 0 : EReal) = 0 from Ideal.ofBits_zero_f32, zero_add]

section Steps

variable (x0 : Vec Ideal S64x4096 .i32) (x1 : Vec Ideal S512x1024 .i8) (zr sr : Fin 4 → Fin 64 → Vec Ideal S1x1x2x128 .bf16)

/-- What one slice adds to a half of the block, at a row and a column. -/
def term (jb : Fin 8) (cc mm : Fin 2) (r : Fin 128) (n : Fin 256) : EReal :=
  ∑ κ : Fin 256, unpack (View.ld x0 (lhsRect jb cc)) (ix2 r κ) * tile x1 zr sr jb cc mm (ix2 κ n)

/-- A step leaves every staging register empty. -/
theorem reg_stepOne (s : Mxu Ideal) (jb : Fin 8) (cc mm : Fin 2) (h : ∀ q r, s.reg q r = none) (q r : Fin 2) :
    (stepOne x0 x1 zr sr s jb cc mm).reg q r = none := by
  unfold stepOne
  by_cases hq : q = mm ∧ r = cc
  · obtain ⟨rfl, rfl⟩ := hq; exact Mxu.reg_accLhs ..
  · rw [Mxu.reg_accLhs_ne _ _ _ _ _ _ _ _ hq, Mxu.reg_pushed_ne _ _ _ _ _ _ _ hq]; exact h q r

/-- A step adds its slice's term to its own unit's rows, -/
theorem read_stepOne (s : Mxu Ideal) (jb : Fin 8) (cc mm : Fin 2) (h : ∀ q r, s.reg q r = none) (r : Fin 128) (n : Fin 256) :
    (stepOne x0 x1 zr sr s jb cc mm).read mm 0 fits_0_128 (ix2 r n)
      = (s.read mm 0 fits_0_128 (ix2 r n) + term x0 x1 zr sr jb cc mm r n : EReal) := by
  unfold stepOne
  rw [Mxu.read_accLhs, Mxu.staged_eq, Mxu.reg_pushed_of_none _ _ _ _ _ (h mm cc), Mxu.read_pushed, Mxu.live_pushed]
  refine (deposit_add s mm _ _ _).trans ?_
  exact congrArg (fun z : EReal => (s.read mm 0 fits_0_128 (ix2 r n) + z : EReal)) (pass_apply _ _ r n)

/-- and leaves the other unit's. -/
theorem read_stepOne_ne (s : Mxu Ideal) (jb : Fin 8) (cc mm q : Fin 2) (hq : q ≠ mm) :
    (stepOne x0 x1 zr sr s jb cc mm).read q 0 (M := 128) fits_0_128 = s.read q 0 fits_0_128 := by
  unfold stepOne
  rw [Mxu.read_accLhs_ne _ _ _ _ _ _ _ _ _ (.inl hq), Mxu.read_pushed]

/-- Two slices on both units: every register empty again, and each unit's rows larger by its two terms. -/
theorem stepFour_spec (s : Mxu Ideal) (jb : Fin 8) (h : ∀ q r, s.reg q r = none) :
    (∀ q r, (stepFour x0 x1 zr sr s jb).reg q r = none)
    ∧ ∀ (mm : Fin 2) (r : Fin 128) (n : Fin 256), (stepFour x0 x1 zr sr s jb).read mm 0 fits_0_128 (ix2 r n)
      = (s.read mm 0 fits_0_128 (ix2 r n) + (term x0 x1 zr sr jb 0 mm r n + term x0 x1 zr sr jb 1 mm r n) : EReal) := by
  have h1 := reg_stepOne x0 x1 zr sr s jb 0 0 h
  have h2 := reg_stepOne x0 x1 zr sr _ jb 0 1 h1
  have h3 := reg_stepOne x0 x1 zr sr _ jb 1 0 h2
  have h4 := reg_stepOne x0 x1 zr sr _ jb 1 1 h3
  refine ⟨h4, fun mm r n => ?_⟩
  rw [← add_assoc]
  unfold stepFour stepBoth
  match mm with
  | 0 =>
    rw [read_stepOne_ne _ _ _ _ _ _ _ _ _ (by decide), read_stepOne _ _ _ _ _ _ _ _ h2, read_stepOne_ne _ _ _ _ _ _ _ _ _ (by decide),
      read_stepOne _ _ _ _ _ _ _ _ h]
  | 1 =>
    rw [read_stepOne _ _ _ _ _ _ _ _ h3, read_stepOne_ne _ _ _ _ _ _ _ _ _ (by decide), read_stepOne _ _ _ _ _ _ _ _ h1,
      read_stepOne_ne _ _ _ _ _ _ _ _ _ (by decide)]

/-- All sixteen slices: each unit's rows hold the sum of their terms. -/
theorem read_passes (mm : Fin 2) (r : Fin 128) (n : Fin 256) :
    (passes x0 x1 zr sr).read mm 0 fits_0_128 (ix2 r n) = (∑ jb : Fin 8, ∑ cc : Fin 2, term x0 x1 zr sr jb cc mm r n : EReal) := by
  have h0 := stepFour_spec x0 x1 zr sr Mxu.init 0 (fun q r => Mxu.reg_init q r)
  have h1 := stepFour_spec x0 x1 zr sr _ 1 h0.1
  have h2 := stepFour_spec x0 x1 zr sr _ 2 h1.1
  have h3 := stepFour_spec x0 x1 zr sr _ 3 h2.1
  have h4 := stepFour_spec x0 x1 zr sr _ 4 h3.1
  have h5 := stepFour_spec x0 x1 zr sr _ 5 h4.1
  have h6 := stepFour_spec x0 x1 zr sr _ 6 h5.1
  have h7 := stepFour_spec x0 x1 zr sr _ 7 h6.1
  unfold passes
  rw [h7.2, h6.2, h5.2, h4.2, h3.2, h2.2, h1.2, h0.2, Mxu.read_init]
  rw [Fin.sum_univ_eight]
  simp only [Fin.sum_univ_two]
  rw [show (constant (Mxu.STile 128) .f32 0 : FVec Ideal (Mxu.STile 128) .f32) (ix2 r n) = (0 : EReal) from Ideal.ofBits_zero_f32, zero_add]

/-- Two halves laid side by side, read at an index of one of them. -/
theorem halves_apply (w0 w1 : Vec Ideal S128x256 .bf16) (mm : Fin 2) (r : Fin 128) (n : Fin 256) :
    View.canon (Val := Elt Ideal) (e := .bf16) [⟨outRect 1, w1⟩, ⟨outRect 0, w0⟩] ((outRect mm).emb (ix2 r n))
      = (match mm with | 0 => w0 | 1 => w1) (ix2 r n) := by
  match mm with
  | 1 => exact View.canon_cons_emb (outRect 1) w1 _ (ix2 r n)
  | 0 =>
    refine (View.canon_cons_of_not_mem _ _ ?_).trans (View.canon_cons_emb (outRect 0) w0 [] (ix2 r n))
    refine Rect.not_mem_set_of_axis (outRect 1) _ 1 256 256 rfl rfl rfl (.inl ?_)
    show 0 + 1 * n.val < 256
    omega

/-- The block the body stores, at a row and a column of one of its halves. -/
theorem out_apply (mm : Fin 2) (r : Fin 128) (n : Fin 256) :
    out x0 x1 zr sr ((outRect mm).emb (ix2 r n)) = (∑ jb : Fin 8, ∑ cc : Fin 2, term x0 x1 zr sr jb cc mm r n : EReal) := by
  have h := read_passes x0 x1 zr sr mm r n
  unfold out
  revert h
  generalize passes x0 x1 zr sr = s
  intro h
  refine (halves_apply (truncf .bf16 (s.read 0 0 fits_0_128) bitsLt_bf16_f32)
    (truncf .bf16 ((s.pop 0 0 128 fits_0_128).read 1 0 fits_0_128) bitsLt_bf16_f32) mm r n).trans (Eq.trans ?_ h)
  match mm with
  | 0 => rfl
  | 1 =>
    rw [Mxu.read_pop_ne _ _ _ _ _ _ _ (.inl (by decide))]
    rfl

end Steps

end Cert.KernelIdeal.Hand

end
-- ==== Proof.Codes.lean ====
/- Hand-written, untrusted. The two-bit codes: what the shifts and masks of the kernel read out of a word of four
   bytes, and what the reference reads out of one byte, are the same two bits. -/
module

public import Idealize.ShloMosaic.PureOps
public import Mathlib.Tactic.FinCases
public import Mathlib.Tactic.IntervalCases

@[expose] public section

noncomputable section

namespace Cert.Hand

open Idealize.ShloMosaic

/-- Code `k` of a byte: bits `2k` and `2k + 1`. -/
def code (b : BitVec 8) (k : Fin 4) : BitVec 32 := ((b >>> (2 * k.val)) &&& 3#8).setWidth 32

/-- The reference's reading: the byte widened, shifted down, masked. -/
theorem code_host (b : BitVec 8) (k : Fin 4) :
    IntOp.andi (IntOp.shrsi .host (b.setWidth 32) (BitVec.ofNat 32 (2 * k.val))) 3#32 = code b k := by
  have hk : (BitVec.ofNat 32 (2 * k.val)).toNat = 2 * k.val := by
    rw [BitVec.toNat_ofNat]; exact Nat.mod_eq_of_lt (by omega)
  unfold IntOp.andi IntOp.shrsi code
  rw [if_pos (by omega)]
  apply BitVec.eq_of_toNat_eq
  revert b
  fin_cases k <;> decide

/-- The low (`p = 0`) or high two bits of each nibble of a word. -/
def crumb (w : BitVec 32) (p : Fin 2) : BitVec 32 :=
  match p with
  | 0 => IntOp.andi w 858993459#32
  | 1 => IntOp.andi (IntOp.shrui .vector w 2#32) 858993459#32

/-- The kernel's reading: nibble `s` of the word's crumbs is code `p + 2 (s mod 2)` of byte `s / 2`. -/
theorem code_word (w : BitVec 32) (b : BitVec 8) (s : Fin 8) (p : Fin 2)
    (h : ∀ q : Fin 8, w.getLsbD (8 * (s.val / 2) + q.val) = b.getLsbD q.val) :
    IntOp.andi (IntOp.shrui .vector (crumb w p) (IntOp.muli 4#32 (BitVec.ofNat 32 s.val))) 15#32
      = code b ⟨p.val + 2 * (s.val % 2), by omega⟩ := by
  have hs : (IntOp.muli 4#32 (BitVec.ofNat 32 s.val)).toNat = 4 * s.val := (by decide : ∀ s : Fin 8, (IntOp.muli 4#32 (BitVec.ofNat 32 s.val)).toNat = 4 * s.val) s
  unfold IntOp.andi IntOp.shrui code crumb
  rw [if_pos (by omega)]
  apply BitVec.eq_of_getLsbD_eq
  intro i hi
  have h15 : (15#32 : BitVec 32).getLsbD i = decide (i < 4) := by interval_cases i <;> rfl
  have h3 : (3#8 : BitVec 8).getLsbD i = decide (i < 2) := by interval_cases i <;> rfl
  have hm : ∀ j, j < 32 → (858993459#32 : BitVec 32).getLsbD j = decide (j % 4 < 2) := by decide
  have hout : ∀ j, 32 ≤ j → (858993459#32 : BitVec 32).getLsbD j = false := fun j hj => BitVec.getLsbD_of_ge _ _ hj
  have hc : (match p with
      | 0 => IntOp.andi w 858993459#32
      | 1 => IntOp.andi (IntOp.shrui .vector w 2#32) 858993459#32).getLsbD (4 * s.val + i)
      = (w.getLsbD (4 * s.val + i + 2 * p.val) && (858993459#32 : BitVec 32).getLsbD (4 * s.val + i)) := by
    match p with
    | 0 => simp [IntOp.andi]
    | 1 => simp [IntOp.andi, IntOp.shrui, BitVec.getLsbD_ushiftRight, Nat.add_comm]
  simp only [BitVec.getLsbD_and, BitVec.getLsbD_setWidth, BitVec.getLsbD_ushiftRight, BitVec.ushiftRight_eq', hs, h15, h3]
  rw [hc]
  by_cases h2 : i < 2
  · have hq := h ⟨4 * (s.val % 2) + 2 * p.val + i, by omega⟩
    dsimp only at hq
    rw [show 8 * (s.val / 2) + (4 * (s.val % 2) + 2 * p.val + i) = 4 * s.val + i + 2 * p.val by omega,
      show 4 * (s.val % 2) + 2 * p.val + i = 2 * (p.val + 2 * (s.val % 2)) + i by omega] at hq
    rw [hq, hm _ (by omega)]
    have h4 : (4 * s.val + i) % 4 < 2 := by omega
    rw [decide_eq_true h4, decide_eq_true h2, decide_eq_true hi, decide_eq_true (show i < 4 by omega)]
    simp
  · by_cases h4 : i < 4
    · rw [hm _ (by omega)]
      have h5 : ¬ (4 * s.val + i) % 4 < 2 := by omega
      rw [decide_eq_false h5, decide_eq_false h2]
      simp
    · simp [h4, h2]

end Cert.Hand

end
-- ==== Proof.Tile.lean ====
/- Hand-written, untrusted. The weight tile read at a row and a column. -/
module

public import proofs.«01_k».proof.Proof.Passes
public import Idealize.ShloMosaic.Lib.Pointwise
public import proofs.«01_k».proof.Proof.Codes
public import Idealize.ShloMosaic.Lib.BitcastFour
public import Idealize.ShloMosaic.Lib.BitcastPair

@[expose] public section

noncomputable section

namespace Cert.KernelIdeal.Hand

open Idealize.ShloMosaic Idealize.SL.Sem
open Cert.KernelIdeal Cert.KernelIdeal.Gen
open scoped BigOperators

/-! ## The scale and zero rows -/

/-- A row repeated sixteen times is the first half of its words. -/
theorem bcast_apply (v : Vec Ideal S1x1x2x128 .bf16) (a : Fin 16) (l : Fin 128) :
    bcast v (ix2 a l) = v (ix4 0 0 0 l) := by
  unfold bcast
  pointwise [interleaveRows, rowsOfParity]
  congr 1
  funext a
  match a with
  | ⟨0, _⟩ => rfl
  | ⟨1, _⟩ => rfl
  | ⟨2, _⟩ => rfl
  | ⟨3, _⟩ => rfl

/-- A slab holds the block's rows turned into lanes, in both halves of a word. -/
theorem slab_apply (v : Vec Ideal S128x64 .bf16) (g : Fin 64) (h : Fin 2) (l : Fin 128) :
    slab v (ix4 0 g h l) = v (ix2 l g) := by
  unfold slab
  pointwise [interleaveRows]
  exact ite_self _

/-- Four slabs, read in one of them. -/
theorem slabs_apply (w : Fin 4 → Vec Ideal S1x64x2x128 .bf16) (nb : Fin 4) (y : S1x64x2x128.Idx) :
    View.canon (Val := Elt Ideal) (e := .bf16) [⟨slabDst 3, w 3⟩, ⟨slabDst 2, w 2⟩, ⟨slabDst 1, w 1⟩, ⟨slabDst 0, w 0⟩] ((slabDst nb).emb y)
      = w nb y := by
  have hy : (y 0).val = 0 := by have : (y 0).val < 1 := (y 0).isLt; omega
  have miss : ∀ k : Fin 4, nb.val < k.val → (slabDst nb).emb y ∉ (slabDst k).set := fun k hk =>
    Rect.not_mem_set_of_axis (slabDst k) _ 0 k.val 1 rfl rfl rfl (.inl (by
      show nb.val + 1 * (y 0).val < k.val
      omega))
  match nb with
  | 3 => exact View.canon_cons_emb (slabDst 3) (w 3) _ y
  | 2 =>
    refine (View.canon_cons_of_not_mem _ _ ?_).trans (View.canon_cons_emb (slabDst 2) (w 2) _ y)
    exact miss 3 (by decide)
  | 1 =>
    refine (View.canon_cons_of_not_mem _ _ ?_).trans ((View.canon_cons_of_not_mem _ _ ?_).trans
      (View.canon_cons_emb (slabDst 1) (w 1) _ y))
    · exact miss 3 (by decide)
    · exact miss 2 (by decide)
  | 0 =>
    refine (View.canon_cons_of_not_mem _ _ ?_).trans ((View.canon_cons_of_not_mem _ _ ?_).trans
      ((View.canon_cons_of_not_mem _ _ ?_).trans (View.canon_cons_emb (slabDst 0) (w 0) _ y)))
    · exact miss 3 (by decide)
    · exact miss 2 (by decide)
    · exact miss 1 (by decide)

/-- A row of any table, read at an index. -/
theorem rows_eq (t : Vec Ideal S4x64x2x128 .bf16) (nb : Fin 4) (g : Fin 64) (y : S1x1x2x128.Idx) :
    rows t nb g y = t ((rowRect nb g).emb y) := rfl

/-- The table's row of slab `nb` and group `g` holds column `g` of the slab's 128 rows. -/
theorem rows_apply (x : Vec Ideal S512x64 .bf16) (nb : Fin 4) (g : Fin 64) (l : Fin 128) :
    rows (table x) nb g (ix4 0 0 0 l) = x (ix2 ⟨128 * nb.val + l.val, by omega⟩ g) := by
  have e : (rowRect nb g).emb (ix4 0 0 0 l) = (slabDst nb).emb (ix4 0 g 0 l) := by
    funext a
    apply Fin.ext
    match a with
    | ⟨0, _⟩ => rfl
    | ⟨1, _⟩ => show g.val + 1 * 0 = 0 + 1 * g.val; omega
    | ⟨2, _⟩ => rfl
    | ⟨3, _⟩ => rfl
  rw [rows_eq, e]
  unfold table
  refine (slabs_apply (fun k => slab (View.ld x (slabSrc k))) nb (ix4 0 g 0 l)).trans ?_
  refine (slab_apply _ g 0 l).trans ?_
  show x ((slabSrc nb).emb (ix2 l g)) = _
  congr 1
  funext a
  apply Fin.ext
  match a with
  | ⟨0, _⟩ => show 128 * nb.val + 1 * l.val = 128 * nb.val + l.val; omega
  | ⟨1, _⟩ => show 0 + 1 * g.val = g.val; omega

/-! ## The codes -/

/-- A word of the turned tile holds four bytes of one of its columns. -/
theorem words_getLsbD (v : Vec Ideal S128x128 .i8) (a : Fin 32) (l : Fin 128) (q : Nat) (hq : q < 32) :
    (words (F := Ideal) v (ix2 a l)).getLsbD q = (v (ix2 l ⟨4 * a.val + q / 8, by omega⟩) : BitVec 8).getLsbD (q % 8) := by
  unfold words
  rw [ix2_eq_valueIdx]
  refine (bitcast_8_32_getLsbD_ix2 (R := 128) (r := 32) (n := 128) _ _ a l q hq ⟨4 * a.val + q / 8, by omega⟩ rfl).trans ?_
  rw [← ix2_eq_valueIdx]
  pointwise

/-- A nibble row of the crumbs holds one code of one byte. -/
theorem nibs_apply (v : Vec Ideal S128x128 .i8) (vv : Fin 4) (p : Fin 2) (ρ : Fin 64) (l : Fin 128) :
    nibs (F := Ideal) (crumbs (wordRows (words (F := Ideal) v) vv) p) (ix2 ρ l)
      = (FloatOps.sitofp .bf16 (Cert.Hand.code (v (ix2 l ⟨32 * vv.val + ρ.val / 2, by omega⟩)) ⟨p.val + 2 * (ρ.val % 2), by omega⟩) : Ideal .bf16) := by
  have hc : crumbs (wordRows (words (F := Ideal) v) vv) p (ix2 ⟨ρ.val / 8, by omega⟩ l)
      = Cert.Hand.crumb (words (F := Ideal) v (ix2 ⟨8 * vv.val + ρ.val / 8, by omega⟩ l)) p := by
    match p with
    | 0 =>
      unfold crumbs wordRows
      pointwise
      rfl
    | 1 =>
      unfold crumbs wordRows
      pointwise
      rfl
  have hw := Cert.Hand.code_word (words (F := Ideal) v (ix2 ⟨8 * vv.val + ρ.val / 8, by omega⟩ l))
    (v (ix2 l ⟨32 * vv.val + ρ.val / 2, by omega⟩)) ⟨ρ.val % 8, by omega⟩ p (fun q => by
      rw [words_getLsbD v _ l _ (by have := q.isLt; dsimp only; omega)]
      have e1 : 4 * (8 * vv.val + ρ.val / 8) + (8 * (ρ.val % 8 / 2) + q.val) / 8 = 32 * vv.val + ρ.val / 2 := by omega
      have e2 : (8 * (ρ.val % 8 / 2) + q.val) % 8 = q.val := by omega
      simp only [e1, e2])
  have e3 : ρ.val % 8 % 2 = ρ.val % 2 := by omega
  simp only [e3] at hw
  rw [← hw, ← hc]
  generalize crumbs (wordRows (words (F := Ideal) v) vv) p = a
  unfold nibs shifts
  pointwise

/-! ## The tile -/

/-- Sixteen rows of weights at a row and a lane. -/
theorem piece_apply (u : FVec Ideal S64x128 .bf16) (q : Fin 4) (z s : FVec Ideal S16x128 .bf16) (a : Fin 16) (l : Fin 128) :
    piece u q z s (ix2 a l) = ((u (ix2 ⟨16 * q.val + a.val, by omega⟩ l) - z (ix2 a l)) * s (ix2 a l) : EReal) := by
  unfold piece
  pointwise

/-- The tile's two blocks of columns. -/
theorem tile_apply (x1 : Vec Ideal S512x1024 .i8) (zr sr : Fin 4 → Fin 64 → Vec Ideal S1x1x2x128 .bf16) (jb : Fin 8) (cc mm : Fin 2)
    (κ : Fin 256) (h : Fin 2) (l : Fin 128) :
    tile x1 zr sr jb cc mm (ix2 κ ⟨128 * h.val + l.val, by omega⟩) = cols x1 zr sr jb cc ⟨2 * mm.val + h.val, by omega⟩ (ix2 κ l) := by
  unfold tile
  pointwise
  match h with
  | 0 =>
    rw [dif_pos (by have := l.isLt; show 128 * 0 + l.val < 128; omega)]
    simp
  | 1 =>
    rw [dif_neg (by show ¬ 128 * 1 + l.val < 128; omega)]
    simp

/-- Sixteen pieces of sixteen rows, in the order of the tile's rows. -/
def pieces (w : Fin 2 → Fin 2 → Fin 4 → FVec Ideal S16x128 .bf16) : List ((s : Shape) × (s.Idx → Elt Ideal .bf16)) :=
  [⟨S16x128, w 0 0 0⟩, ⟨S16x128, w 0 0 1⟩, ⟨S16x128, w 0 0 2⟩, ⟨S16x128, w 0 0 3⟩,
    ⟨S16x128, w 0 1 0⟩, ⟨S16x128, w 0 1 1⟩, ⟨S16x128, w 0 1 2⟩, ⟨S16x128, w 0 1 3⟩,
    ⟨S16x128, w 1 0 0⟩, ⟨S16x128, w 1 0 1⟩, ⟨S16x128, w 1 0 2⟩, ⟨S16x128, w 1 0 3⟩,
    ⟨S16x128, w 1 1 0⟩, ⟨S16x128, w 1 1 1⟩, ⟨S16x128, w 1 1 2⟩, ⟨S16x128, w 1 1 3⟩]

/-- Sixteen pieces laid one under the other, read at a row. -/
theorem pieces_apply (w : Fin 2 → Fin 2 → Fin 4 → FVec Ideal S16x128 .bf16) (e p : Fin 2) (q : Fin 4) (a : Fin 16) (l : Fin 128) :
    (concatenate S256x128 0 (pieces w)
      concatenates_S16x128_S16x128_S16x128_S16x128_S16x128_S16x128_S16x128_S16x128_S16x128_S16x128_S16x128_S16x128_S16x128_S16x128_S16x128_S16x128_S256x128_d0 : FVec Ideal S256x128 .bf16)
      (ix2 ⟨16 * (8 * e.val + 4 * p.val + q.val) + a.val, by omega⟩ l) = w e p q (ix2 a l) := by
  have hk : 8 * e.val + 4 * p.val + q.val < (pieces w).length := by show _ < 16; omega
  have hx : (pieces w)[8 * e.val + 4 * p.val + q.val]'hk = ⟨S16x128, w e p q⟩ := by
    fin_cases e <;> fin_cases p <;> fin_cases q <;> rfl
  refine concatenate_apply_piece (t := S256x128) (0 : Fin 2) (pieces w) _ _ (8 * e.val + 4 * p.val + q.val) hk S16x128 (w e p q) hx rfl
    (16 * (8 * e.val + 4 * p.val + q.val)) ?_ (ix2 a l) ?_ ?_
  · have hm : (pieces w).map (·.1) = List.replicate 16 S16x128 := rfl
    rw [List.map_take, hm, List.take_replicate, List.map_replicate, List.sum_replicate,
      Nat.min_eq_left (by omega)]
    show (8 * e.val + 4 * p.val + q.val) * 16 = _
    omega
  · intro b hb
    match b with
    | ⟨0, _⟩ => exact absurd rfl hb
    | ⟨1, _⟩ => rfl
  · rfl

/-- A block of columns in its sixteen pieces. -/
theorem cols_apply (x1 : Vec Ideal S512x1024 .i8) (zr sr : Fin 4 → Fin 64 → Vec Ideal S1x1x2x128 .bf16) (jb : Fin 8) (cc : Fin 2) (nb : Fin 4)
    (e p : Fin 2) (q : Fin 4) (a : Fin 16) (l : Fin 128) :
    cols x1 zr sr jb cc nb (ix2 ⟨16 * (8 * e.val + 4 * p.val + q.val) + a.val, by omega⟩ l)
      = part zr sr (words (F := Ideal) (View.ld x1 (codeRect nb jb))) jb cc nb e p q (ix2 a l) := by
  exact pieces_apply (part zr sr (words (F := Ideal) (View.ld x1 (codeRect nb jb))) jb cc nb) e p q a l

/-- Sixteen rows of weights read from a tile of code bytes. -/
theorem part_apply (v : Vec Ideal S128x128 .i8) (zt st : Vec Ideal S512x64 .bf16) (jb : Fin 8) (cc : Fin 2) (nb : Fin 4) (e p : Fin 2) (q : Fin 4)
    (a : Fin 16) (l : Fin 128) (b : BitVec 8) (hb : v (ix2 l ⟨32 * (2 * cc.val + e.val) + (16 * q.val + a.val) / 2, by omega⟩) = b) :
    part (rows (table zt)) (rows (table st)) (words (F := Ideal) v) jb cc nb e p q (ix2 a l)
      = (((FloatOps.sitofp .bf16 (Cert.Hand.code b ⟨p.val + 2 * (a.val % 2), by omega⟩) : Ideal .bf16)
            - zt (ix2 ⟨128 * nb.val + l.val, by omega⟩ (grp jb cc e ⟨q.val / 2, by omega⟩)))
          * st (ix2 ⟨128 * nb.val + l.val, by omega⟩ (grp jb cc e ⟨q.val / 2, by omega⟩)) : EReal) := by
  have e2 : (16 * q.val + a.val) % 2 = a.val % 2 := by omega
  unfold part
  rw [piece_apply, nibs_apply, bcast_apply, bcast_apply, rows_apply, rows_apply]
  simp only [hb, e2]

/-- The weight at a row of the tile and a lane of one of its two blocks of columns. -/
theorem weight (x1 : Vec Ideal S512x1024 .i8) (zt st : Vec Ideal S512x64 .bf16) (jb : Fin 8) (cc mm h e p : Fin 2) (q : Fin 4) (a : Fin 16)
    (l : Fin 128) :
    tile x1 (rows (table zt)) (rows (table st)) jb cc mm
        (ix2 ⟨16 * (8 * e.val + 4 * p.val + q.val) + a.val, by omega⟩ ⟨128 * h.val + l.val, by omega⟩)
      = (((FloatOps.sitofp .bf16 (Cert.Hand.code (x1 (ix2 ⟨128 * (2 * mm.val + h.val) + l.val, by omega⟩
              ⟨128 * jb.val + 32 * (2 * cc.val + e.val) + (16 * q.val + a.val) / 2, by omega⟩)) ⟨p.val + 2 * (a.val % 2), by omega⟩) : Ideal .bf16)
            - zt (ix2 ⟨128 * (2 * mm.val + h.val) + l.val, by omega⟩ (grp jb cc e ⟨q.val / 2, by omega⟩)))
          * st (ix2 ⟨128 * (2 * mm.val + h.val) + l.val, by omega⟩ (grp jb cc e ⟨q.val / 2, by omega⟩)) : EReal) := by
  rw [tile_apply, cols_apply]
  have e1 : (View.ld x1 (codeRect ⟨2 * mm.val + h.val, by omega⟩ jb) : Vec Ideal S128x128 .i8)
      (ix2 l ⟨32 * (2 * cc.val + e.val) + (16 * q.val + a.val) / 2, by omega⟩)
      = x1 (ix2 ⟨128 * (2 * mm.val + h.val) + l.val, by omega⟩
          ⟨128 * jb.val + 32 * (2 * cc.val + e.val) + (16 * q.val + a.val) / 2, by omega⟩) := by
    show x1 ((codeRect ⟨2 * mm.val + h.val, by omega⟩ jb).emb (ix2 l ⟨32 * (2 * cc.val + e.val) + (16 * q.val + a.val) / 2, by omega⟩)) = _
    refine congrArg x1 (funext fun b => Fin.ext ?_)
    match b with
    | ⟨0, _⟩ => show 128 * (2 * mm.val + h.val) + 1 * l.val = 128 * (2 * mm.val + h.val) + l.val; omega
    | ⟨1, _⟩ =>
      show 128 * jb.val + 1 * (32 * (2 * cc.val + e.val) + (16 * q.val + a.val) / 2) = 128 * jb.val + 32 * (2 * cc.val + e.val) + (16 * q.val + a.val) / 2
      omega
  exact part_apply _ zt st jb cc ⟨2 * mm.val + h.val, by omega⟩ e p q a l _ e1

end Cert.KernelIdeal.Hand

end
-- ==== Proof.Spec.lean ====
/- Hand-written, untrusted. The product both programs compute, written once: a row of activations against a row of
   dequantised weights, summed over the 4096 columns. The kernel sums in the order of the packed words, the reference in
   the order of the codes; the two orders differ by a permutation of each group of 128 columns. -/
module

public import proofs.«01_k».proof.Proof.Tile

@[expose] public section

noncomputable section

namespace Cert.Hand

open Idealize.ShloMosaic Idealize.SL.Sem
open Cert.KernelIdeal

/-- One activation: a half of a packed word. -/
def half (w : Vec Ideal S64x4096 .i32) (r : Fin 128) (col : Fin 4096) : EReal :=
  (FloatOps.ofBits .bf16 ((w (ix2 ⟨r.val / 2, by omega⟩ col) : BitVec 32).extractLsb' (16 * (r.val % 2)) 16) : Ideal .bf16)

/-- One weight of a row of codes, in the order of the codes: `(code − zero) · scale`. -/
def weightAt (b : Fin 1024 → BitVec 8) (z s : Fin 64 → EReal) (x : Fin 4096) : EReal :=
  ((FloatOps.sitofp .bf16 (code (b ⟨x.val / 4, by omega⟩) ⟨x.val % 4, by omega⟩) : Ideal .bf16) - z ⟨x.val / 64, by omega⟩ : EReal)
    * s ⟨x.val / 64, by omega⟩

/-- A column of the packed words, taken apart. -/
theorem packed_parts (c p ρ : Nat) (hp : p < 2) (hρ : ρ < 64) :
    (128 * c + 64 * p + ρ) / 128 = c ∧ (128 * c + 64 * p + ρ) % 64 = ρ ∧ (128 * c + 64 * p + ρ) / 64 % 2 = p := by omega

/-- A column of the codes, taken apart. -/
theorem code_parts (c p ρ : Nat) (hp : p < 2) (hρ : ρ < 64) :
    (128 * c + 2 * ρ + p) / 128 = c ∧ (128 * c + 2 * ρ + p) % 2 = p ∧ (128 * c + 2 * ρ + p) % 128 / 2 = ρ := by omega

/-- The code byte, the code in the byte, and the group of a column of the codes. -/
theorem code_place (c p ρ : Nat) (hp : p < 2) (hρ : ρ < 64) :
    (128 * c + 2 * ρ + p) / 4 = 32 * c + ρ / 2 ∧ (128 * c + 2 * ρ + p) % 4 = p + 2 * (ρ % 2)
      ∧ (128 * c + 2 * ρ + p) / 64 = 2 * c + ρ / 32 := by omega

/-- Where the column `x` of the codes stands among the packed words: in each group of 128 columns the even ones come
    first, then the odd ones. -/
def perm : Fin 4096 ≃ Fin 4096 where
  toFun x := ⟨128 * (x.val / 128) + 64 * (x.val % 2) + x.val % 128 / 2, by omega⟩
  invFun y := ⟨128 * (y.val / 128) + 2 * (y.val % 64) + y.val / 64 % 2, by omega⟩
  left_inv x := Fin.ext (by
    obtain ⟨h1, h2, h3⟩ := packed_parts (x.val / 128) (x.val % 2) (x.val % 128 / 2) (by omega) (by omega)
    dsimp only
    rw [h1, h2, h3]
    omega)
  right_inv y := Fin.ext (by
    obtain ⟨h1, h2, h3⟩ := code_parts (y.val / 128) (y.val / 64 % 2) (y.val % 64) (by omega) (by omega)
    dsimp only
    rw [h1, h2, h3]
    omega)

theorem perm_val (x : Fin 4096) : (perm x).val = 128 * (x.val / 128) + 64 * (x.val % 2) + x.val % 128 / 2 := rfl
theorem perm_symm_val (y : Fin 4096) : (perm.symm y).val = 128 * (y.val / 128) + 2 * (y.val % 64) + y.val / 64 % 2 := rfl

/-- The product at a row of activations and a row of weights. -/
def product (w : Vec Ideal S64x4096 .i32) (r : Fin 128) (b : Fin 1024 → BitVec 8) (z s : Fin 64 → EReal) : EReal :=
  ∑ x : Fin 4096, half w r (perm x) * weightAt b z s x

/-- The product summed in the order of the packed words. -/
theorem product_perm (w : Vec Ideal S64x4096 .i32) (r : Fin 128) (b : Fin 1024 → BitVec 8) (z s : Fin 64 → EReal) :
    product w r b z s = ∑ y : Fin 4096, half w r y * weightAt b z s (perm.symm y) := by
  unfold product
  rw [← Equiv.sum_comp perm (fun y => half w r y * weightAt b z s (perm.symm y))]
  simp only [Equiv.symm_apply_apply]

/-- A sum over blocks of equal length is the sum over all. -/
theorem sum_blocks {a b n : Nat} (h : a * b = n) (f : Fin n → EReal) :
    (∑ i : Fin a, ∑ j : Fin b, f ⟨b * i.val + j.val, by
      have := i.isLt; have := j.isLt; subst h
      calc b * i.val + j.val < b * i.val + b := by omega
        _ = b * (i.val + 1) := by ring
        _ ≤ b * a := Nat.mul_le_mul_left _ (by omega)
        _ = a * b := Nat.mul_comm _ _⟩) = ∑ x : Fin n, f x := by
  subst h
  rw [← Fintype.sum_prod_type' (f := fun (i : Fin a) (j : Fin b) => f ⟨b * i.val + j.val, _⟩), ← Equiv.sum_comp finProdFinEquiv f]
  refine Finset.sum_congr rfl fun p _ => congrArg f (Fin.ext ?_)
  show b * p.1.val + p.2.val = p.2.val + b * p.1.val
  omega

end Cert.Hand

namespace Cert.KernelIdeal.Hand

open Idealize.ShloMosaic Idealize.SL.Sem
open Cert.KernelIdeal Cert.KernelIdeal.Gen Cert.Hand

/-- The tile holds the weights in the order of the packed words. -/
theorem tile_weight (x1 : Vec Ideal S512x1024 .i8) (zt st : Vec Ideal S512x64 .bf16) (jb : Fin 8) (cc mm : Fin 2) (κ N : Fin 256) :
    tile x1 (rows (table zt)) (rows (table st)) jb cc mm (ix2 κ N)
      = weightAt (fun j => x1 (ix2 ⟨256 * mm.val + N.val, by omega⟩ j)) (fun g => zt (ix2 ⟨256 * mm.val + N.val, by omega⟩ g))
          (fun g => st (ix2 ⟨256 * mm.val + N.val, by omega⟩ g)) (perm.symm ⟨256 * (2 * jb.val + cc.val) + κ.val, by omega⟩) := by
  have hw := weight x1 zt st jb cc mm ⟨N.val / 128, by omega⟩ ⟨κ.val / 128, by omega⟩ ⟨κ.val / 64 % 2, by omega⟩ ⟨κ.val / 16 % 4, by omega⟩
    ⟨κ.val % 16, by omega⟩ ⟨N.val % 128, by omega⟩
  have eκ : (⟨16 * (8 * (κ.val / 128) + 4 * (κ.val / 64 % 2) + κ.val / 16 % 4) + κ.val % 16, by omega⟩ : Fin 256) = κ := Fin.ext (by dsimp only; omega)
  have eN : (⟨128 * (N.val / 128) + N.val % 128, by omega⟩ : Fin 256) = N := Fin.ext (by dsimp only; omega)
  have eR : (⟨128 * (2 * mm.val + N.val / 128) + N.val % 128, by omega⟩ : Fin 512) = ⟨256 * mm.val + N.val, by omega⟩ := Fin.ext (by dsimp only; omega)
  dsimp only at hw
  rw [eκ, eN, eR] at hw
  rw [hw]
  unfold weightAt
  have hp : (perm.symm ⟨256 * (2 * jb.val + cc.val) + κ.val, by omega⟩).val
      = 128 * (4 * jb.val + 2 * cc.val + κ.val / 128) + 2 * (κ.val % 64) + κ.val / 64 % 2 := by
    rw [perm_symm_val]; dsimp only; omega
  obtain ⟨h1, h2, h3⟩ := code_place (4 * jb.val + 2 * cc.val + κ.val / 128) (κ.val / 64 % 2) (κ.val % 64) (by omega) (by omega)
  rw [← hp] at h1 h2 h3
  have h4 : 16 * (κ.val / 16 % 4) + κ.val % 16 = κ.val % 64 := by omega
  have h5 : κ.val % 16 % 2 = κ.val % 64 % 2 := by omega
  have h6 : κ.val / 16 % 4 / 2 = κ.val % 64 / 32 := by omega
  have e1 : (⟨128 * jb.val + 32 * (2 * cc.val + κ.val / 128) + (16 * (κ.val / 16 % 4) + κ.val % 16) / 2, by omega⟩ : Fin 1024)
      = ⟨(perm.symm ⟨256 * (2 * jb.val + cc.val) + κ.val, by omega⟩).val / 4, by omega⟩ :=
    Fin.ext (by dsimp only; rw [h1, h4]; omega)
  have e2 : (⟨κ.val / 64 % 2 + 2 * (κ.val % 16 % 2), by omega⟩ : Fin 4)
      = ⟨(perm.symm ⟨256 * (2 * jb.val + cc.val) + κ.val, by omega⟩).val % 4, by omega⟩ :=
    Fin.ext (by dsimp only; rw [h2, h5])
  have e3 : grp jb cc ⟨κ.val / 128, by omega⟩ ⟨κ.val / 16 % 4 / 2, by omega⟩
      = ⟨(perm.symm ⟨256 * (2 * jb.val + cc.val) + κ.val, by omega⟩).val / 64, by omega⟩ :=
    Fin.ext (by show 2 * (4 * jb.val + (2 * cc.val + κ.val / 128)) + κ.val / 16 % 4 / 2 = _; dsimp only; rw [h3, h6]; omega)
  rw [e1, e2, e3]

/-- Words read as pairs of floats: row `r` is half `r mod 2` of row `r / 2`. -/
theorem unpack_ix2 (v : Vec Ideal S64x256 .i32) (r : Fin 128) (κ : Fin 256) :
    unpack (F := Ideal) v (ix2 r κ)
      = (FloatOps.ofBits .bf16 ((v (ix2 ⟨r.val / 2, by omega⟩ κ) : BitVec 32).extractLsb' (16 * (r.val % 2)) 16) : Ideal .bf16) := by
  unfold unpack
  rw [bitcastToFloat_apply, bitcast_32_16]
  have hrow : S128x256.row (ix2 r κ) = r.val := rfl
  refine congrArg (FloatOps.ofBits FTy.bf16) ?_
  have hi : ∀ hp, (bitcasts_S64x256_w32_S128x256_w16).srcIdx (ix2 r κ) (S128x256.row (ix2 r κ) / 2) hp = ix2 ⟨r.val / 2, by omega⟩ κ := by
    intro hp
    funext a
    match a with
    | ⟨0, _⟩ => exact Fin.ext ((bitcasts_S64x256_w32_S128x256_w16).srcIdx_row _ _ _ ⟨0, Nat.zero_lt_two⟩ rfl)
    | ⟨1, _⟩ => exact Fin.ext ((bitcasts_S64x256_w32_S128x256_w16).srcIdx_other _ _ _ ⟨1, Nat.one_lt_two⟩ (by show ¬ 1 + 2 = 2; omega))
  rw [hi, hrow]

/-- The left value of a slice: halves of the slice's words. -/
theorem unpack_apply (x0 : Vec Ideal S64x4096 .i32) (jb : Fin 8) (cc : Fin 2) (r : Fin 128) (κ : Fin 256) :
    unpack (F := Ideal) (View.ld x0 (lhsRect jb cc)) (ix2 r κ) = half x0 r ⟨256 * (2 * jb.val + cc.val) + κ.val, by omega⟩ := by
  refine (unpack_ix2 _ r κ).trans ?_
  have e : (lhsRect jb cc).emb (ix2 ⟨r.val / 2, by omega⟩ κ) = ix2 ⟨r.val / 2, by omega⟩ ⟨256 * (2 * jb.val + cc.val) + κ.val, by omega⟩ := by
    funext b; apply Fin.ext
    match b with
    | ⟨0, _⟩ => show 0 + 1 * (r.val / 2) = r.val / 2; omega
    | ⟨1, _⟩ => show 256 * (2 * jb.val + cc.val) + 1 * κ.val = 256 * (2 * jb.val + cc.val) + κ.val; omega
  exact congrArg (fun w : BitVec 32 => (FloatOps.ofBits .bf16 (w.extractLsb' (16 * (r.val % 2)) 16) : Ideal .bf16)) (congrArg x0 e)

/-- The block the body leaves, element by element. -/
theorem out_product (x0 : Vec Ideal S64x4096 .i32) (x1 : Vec Ideal S512x1024 .i8) (zt st : Vec Ideal S512x64 .bf16) (r : Fin 128) (n : Fin 512) :
    out x0 x1 (rows (table zt)) (rows (table st)) (ix2 r n)
      = product x0 r (fun j => x1 (ix2 n j)) (fun g => zt (ix2 n g)) (fun g => st (ix2 n g)) := by
  have hi : (ix2 r n : S128x512.Idx) = (outRect ⟨n.val / 256, by omega⟩).emb (ValueIdx.ix2 r ⟨n.val % 256, by omega⟩) := by
    funext a; apply Fin.ext
    match a with
    | ⟨0, _⟩ => show r.val = 0 + 1 * r.val; omega
    | ⟨1, _⟩ => show n.val = 256 * (n.val / 256) + 1 * (n.val % 256); omega
  rw [hi, out_apply, product_perm]
  have en : (⟨256 * (n.val / 256) + n.val % 256, by omega⟩ : Fin 512) = n := Fin.ext (by dsimp only; omega)
  rw [← sum_blocks (a := 16) (b := 256) rfl, ← sum_blocks (a := 8) (b := 2) (n := 16) rfl]
  refine Finset.sum_congr rfl fun jb _ => Finset.sum_congr rfl fun cc _ => ?_
  unfold term
  refine Finset.sum_congr rfl fun κ _ => ?_
  rw [← ix2_eq_valueIdx, ← ix2_eq_valueIdx, unpack_apply, tile_weight]
  simp only [en]

end Cert.KernelIdeal.Hand

end
-- ==== Proof.IdealArray.lean ====
/- Hand-written, untrusted. What the kernel's output array holds after a run: every element is the product of a row of
   activations and a row of dequantised weights. -/
module

public import proofs.«01_k».proof.Proof.IdealFrame
public import proofs.«01_k».proof.Proof.Spec
public import Idealize.ShloMosaic.Lib.Pipeline.ValueKit.Geometry

@[expose] public section

noncomputable section

namespace Cert.KernelIdeal.Hand

open Idealize.ShloMosaic Idealize.ShloMosaic.TcCoe Idealize.SL.Sem
open Cert.KernelIdeal Cert.KernelIdeal.Gen Cert.Hand

variable (m : (ℓ : Loc nD τ sig) → Buf (Elt Ideal) ℓ)

/-- The whole product of the arrays. -/
def result (w : Vec Ideal S64x4096 .i32) (b : Vec Ideal S14336x1024 .i8) (s z : Vec Ideal S14336x64 .bf16) : Vec Ideal S128x14336 .bf16 :=
  fun i => product w (i 0) (fun j => b (ix2 (i 1) j)) (fun g => z (ix2 (i 1) g)) (fun g => s (ix2 (i 1) g))

/-! ## Where the blocks lie -/

theorem index0 : ∀ t : Fin cfg0.N, win0_0.index t = ![0, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![0, (grid0.coords t 0).val] := (by decide +kernel : ∀ t : Fin grid0.N, _)

/-- The row of the weights that row `n` of the blocks at point `t` is. -/
def rowAt (t : Fin cfg0.N) (n : Fin 512) : Fin 14336 :=
  ⟨512 * (grid0.coords t 0).val + n.val, by have h : (grid0.coords t 0).val < 28 := (grid0.coords t 0).isLt; omega⟩

/-- The block of words is all of them. -/
theorem block0 (c : Dev nD) (t : Fin cfg0.N) (y : S64x4096.Idx) : iblk m c 0 t y = V m c main_arg0 y := by
  blk_simp [iblk]
  congr 1
  blk_ext [index0]

theorem block1 (c : Dev nD) (t : Fin cfg0.N) (n : Fin 512) (j : Fin 1024) :
    iblk m c 1 t (ix2 n j) = V m c main_arg1 (ix2 (rowAt t n) j) := by
  blk_simp [iblk]
  congr 1
  unfold rowAt
  blk_ext [index1]

theorem block2 (c : Dev nD) (t : Fin cfg0.N) (n : Fin 512) (g : Fin 64) :
    iblk m c 2 t (ix2 n g) = V m c main_arg2 (ix2 (rowAt t n) g) := by
  blk_simp [iblk]
  congr 1
  unfold rowAt
  blk_ext [index2]

theorem block3 (c : Dev nD) (t : Fin cfg0.N) (n : Fin 512) (g : Fin 64) :
    iblk m c 3 t (ix2 n g) = V m c main_arg3 (ix2 (rowAt t n) g) := by
  blk_simp [iblk]
  congr 1
  unfold rowAt
  blk_ext [index3]

/-- Where the output's block at point `t` lies. -/
theorem place4 (t : Fin cfg0.N) (r : Fin 128) (n : Fin 512) :
    (win0_4.blk t).view.emb (ix2 r n) = (ix2 r (rowAt t n) : S128x14336.Idx) := by
  unfold rowAt
  blk_ext [index4]

/-- The output array after a run. -/
theorem final (c : Dev nD) :
    (dats m 0 c).arrAt 4 cfg0.N = result (V m c main_arg0) (V m c main_arg1) (V m c main_arg2) (V m c main_arg3) := by
  refine (dats m 0 c).arrAt_eq_of_covers 4 _ (by decide +kernel) fun t hf y => ?_
  blk_simp
  rw [after0_4]
  obtain ⟨r, n, rfl⟩ : ∃ (r : Fin 128) (n : Fin 512), y = ix2 r n := ⟨y 0, y 1, eq_ix2 y⟩
  refine (out_product _ _ _ _ r n).trans ?_
  rw [place4]
  have h0 : (iblk m c 0 t : Vec Ideal S64x4096 .i32) = V m c main_arg0 := funext fun y => block0 m c t y
  rw [h0]
  simp only [block1, block2, block3]
  rfl

end Cert.KernelIdeal.Hand

end
-- ==== Proof.RefValue.lean ====
/- Hand-written, untrusted. What the reference computes: its result, element by element, is the product of a row of
   activations and a row of dequantised weights. -/
module

public import proofs.«01_k».proof.Proof.Spec
public import proofs.«01_k».proof.Proof.Gen.ReferenceIdeal.Run
public import Idealize.ShloMosaic.Lib.Pointwise
public import Idealize.ShloMosaic.Lib.BitcastConvert

@[expose] public section

noncomputable section

namespace Cert.ReferenceIdeal.Hand

open Idealize.ShloMosaic Idealize.ShloMosaic.TcCoe Idealize.SL.Sem
open Cert.ReferenceIdeal Cert.ReferenceIdeal.Gen Cert.Hand

/-- The rotated activations the words hold, before the columns are put in order: two rows of each row of words. -/
def rowsOf (w : Vec Ideal S64x4096 .i32) : FVec Ideal S128x4096 .bf16 :=
  shapeCast _ (transpose S64x2x4096 [0, 2, 1] (bitcastToFloat (F := Ideal) .bf16
    (Host.bitcastConvertNarrow S64x4096x2 16 w splits_S64x4096_w32_S64x4096x2_w16)) transposes_S64x4096x2_S64x2x4096_0_2_1)
    shapeCasts_S64x2x4096_S128x4096

/-- The activations in the order of the codes. -/
def inOrder (v : FVec Ideal S128x4096 .bf16) : FVec Ideal S128x4096 .bf16 :=
  shapeCast _ (transpose S128x32x64x2 [0, 1, 3, 2] (shapeCast _ v shapeCasts_S128x4096_S128x32x2x64)
    transposes_S128x32x2x64_S128x32x64x2_0_1_3_2) shapeCasts_S128x32x64x2_S128x4096

/-- The dequantised weights of one code of each byte. -/
def weights (b : Vec Ideal S14336x1024 .i8) (z s : FVec Ideal S14336x64 .bf16) (k : BitVec 32) : FVec Ideal S14336x1024 .bf16 :=
  shapeCast _ (mulf (subf (shapeCast _ (sitofp .bf16 (andi (Host.shrsi (extui 32 b natLt_8_32)
        (broadcastInDim S14336x1024 ![] bcast_S_S14336x1024 (constantI S_ 32 k)))
      (broadcastInDim S14336x1024 ![] bcast_S_S14336x1024 (constantI S_ 32 3#32)))) shapeCasts_S14336x1024_S14336x64x16)
    (broadcastInDim S14336x64x16 ![0, 1, 2] bcast_S14336x64x1_S14336x64x16_0_1_2
      (broadcastInDim S14336x64x1 ![0, 1] bcast_S14336x64_S14336x64x1_0_1 z)))
    (broadcastInDim S14336x64x16 ![0, 1, 2] bcast_S14336x64x1_S14336x64x16_0_1_2
      (broadcastInDim S14336x64x1 ![0, 1] bcast_S14336x64_S14336x64x1_0_1 s))) shapeCasts_S14336x64x16_S14336x1024

/-- A row of the words' halves. -/
theorem rowsOf_apply (w : Vec Ideal S64x4096 .i32) (r : Fin 128) (col : Fin 4096) :
    rowsOf w (ix2 r col) = half w r col := by
  unfold rowsOf half
  pointwise
  have e : splits_S64x4096_w32_S64x4096x2_w16.drop (ix3 ⟨r.val / 2, by omega⟩ col ⟨r.val % 2, by omega⟩) = ix2 ⟨r.val / 2, by omega⟩ col := by
    funext a
    apply Fin.ext
    match a with
    | ⟨0, _⟩ => rfl
    | ⟨1, _⟩ => rfl
  rw [e, Nat.mul_comm (r.val % 2) 16]

/-- The activations in order: column `x` is the packed column `perm x`. -/
theorem inOrder_apply (v : FVec Ideal S128x4096 .bf16) (r : Fin 128) (x : Fin 4096) :
    inOrder v (ix2 r x) = v (ix2 r (perm x)) := by
  unfold inOrder
  pointwise
  refine congrArg (fun y => v (ix2 r y)) (Fin.ext ?_)
  rw [perm_val]
  dsimp only
  omega

/-- A weight of code `k` of byte `j`. -/
theorem weights_apply (b : Vec Ideal S14336x1024 .i8) (z s : FVec Ideal S14336x64 .bf16) (k : Fin 4) (n : Fin 14336) (j : Fin 1024) :
    weights b z s (BitVec.ofNat 32 (2 * k.val)) (ix2 n j)
      = weightAt (fun j => b (ix2 n j)) (fun g => z (ix2 n g)) (fun g => s (ix2 n g)) ⟨4 * j.val + k.val, by omega⟩ := by
  unfold weights weightAt
  pointwise
  rw [code_host]
  have e1 : (⟨(4 * j.val + k.val) / 4, by omega⟩ : Fin 1024) = j := Fin.ext (by dsimp only; omega)
  have e2 : (⟨(4 * j.val + k.val) % 4, by omega⟩ : Fin 4) = k := Fin.ext (by dsimp only; omega)
  have e3 : (⟨(4 * j.val + k.val) / 64, by omega⟩ : Fin 64) = ⟨j.val / 16, by omega⟩ := Fin.ext (by dsimp only; omega)
  rw [e1, e2, e3]

/-- One of the four products. -/
theorem dot_apply (A : FVec Ideal S128x1024 .bf16) (B : FVec Ideal S14336x1024 .bf16) (r : Fin 128) (n : Fin 14336) :
    (Host.dotGeneral dot_S128x1024_S14336x1024_S128x14336_1_1_0_0_n_n none A B : FVec Ideal S128x14336 .f32) (ix2 r n)
      = ∑ j : Fin 1024, A (ix2 r j) * B (ix2 n j) := by
  pointwise

/-- Every fourth activation of a row, from the `k`-th. -/
theorem slice_apply (k : Fin 4) (h : S128x4096.SlicesBy (![0, k.val] : Fin 2 → Nat) ![1, 4] S128x1024) (v : FVec Ideal S128x4096 .bf16)
    (r : Fin 128) (j : Fin 1024) :
    Host.slice S128x1024 ![0, k.val] ![1, 4] v h (ix2 r j) = v (ix2 r ⟨4 * j.val + k.val, by omega⟩) := by
  refine congrArg v ?_
  funext a
  apply Fin.ext
  match a with
  | ⟨0, _⟩ => show 0 + 1 * r.val = r.val; omega
  | ⟨1, _⟩ => show k.val + 4 * j.val = 4 * j.val + k.val; omega

/-- One of the four terms: the activations from the `k`-th, every fourth, against the weights of code `k`. -/
def part (w : Vec Ideal S64x4096 .i32) (b : Vec Ideal S14336x1024 .i8) (z s : FVec Ideal S14336x64 .bf16) (k : Fin 4)
    (h : S128x4096.SlicesBy (![0, k.val] : Fin 2 → Nat) ![1, 4] S128x1024) : FVec Ideal S128x14336 .f32 :=
  Host.dotGeneral dot_S128x1024_S14336x1024_S128x14336_1_1_0_0_n_n none
    (Host.slice S128x1024 ![0, k.val] ![1, 4] (inOrder (rowsOf w)) h) (weights b z s (BitVec.ofNat 32 (2 * k.val)))

/-- A term at an element. -/
theorem part_apply (w : Vec Ideal S64x4096 .i32) (b : Vec Ideal S14336x1024 .i8) (z s : FVec Ideal S14336x64 .bf16) (k : Fin 4)
    (h : S128x4096.SlicesBy (![0, k.val] : Fin 2 → Nat) ![1, 4] S128x1024) (r : Fin 128) (n : Fin 14336) :
    part w b z s k h (ix2 r n)
      = ∑ j : Fin 1024, half w r (perm ⟨4 * j.val + k.val, by omega⟩)
          * weightAt (fun j => b (ix2 n j)) (fun g => z (ix2 n g)) (fun g => s (ix2 n g)) ⟨4 * j.val + k.val, by omega⟩ := by
  refine (dot_apply _ _ r n).trans (Finset.sum_congr rfl fun j _ => ?_)
  rw [slice_apply, inOrder_apply, rowsOf_apply, weights_apply]

/-- The four terms added up. -/
def total (w : Vec Ideal S64x4096 .i32) (b : Vec Ideal S14336x1024 .i8) (z s : FVec Ideal S14336x64 .bf16) : FVec Ideal S128x14336 .bf16 :=
  truncf .bf16 (addf (addf (addf (addf (broadcastInDim S128x14336 ![] bcast_S_S128x14336 (constant S_ .f32 0x00000000#32))
    (part w b z s 0 slicesBy_S128x4096_S128x1024_0s1_0s4)) (part w b z s 1 slicesBy_S128x4096_S128x1024_0s1_1s4))
    (part w b z s 2 slicesBy_S128x4096_S128x1024_0s1_2s4)) (part w b z s 3 slicesBy_S128x4096_S128x1024_0s1_3s4)) bitsLt_bf16_f32

/-- The four terms make up the product. -/
theorem total_apply (w : Vec Ideal S64x4096 .i32) (b : Vec Ideal S14336x1024 .i8) (z s : FVec Ideal S14336x64 .bf16)
    (r : Fin 128) (n : Fin 14336) :
    total w b z s (ix2 r n) = product w r (fun j => b (ix2 n j)) (fun g => z (ix2 n g)) (fun g => s (ix2 n g)) := by
  unfold total
  pointwise
  rw [part_apply, part_apply, part_apply, part_apply]
  unfold product
  rw [← sum_blocks (a := 1024) (b := 4) rfl, Finset.sum_comm, Fin.sum_univ_four]

/-- The reference's result is the four terms added up. -/
theorem result_eq (m : (ℓ : Loc nD τ sig) → Buf (Elt Ideal) ℓ) (c : Dev nD) :
    Value.res_out0 m c = total (m ((c.tc : Thread nD τ).loc main_arg0)) (m ((c.tc : Thread nD τ).loc main_arg1))
      (m ((c.tc : Thread nD τ).loc main_arg3)) (m ((c.tc : Thread nD τ).loc main_arg2)) := rfl

end Cert.ReferenceIdeal.Hand

end
-- ==== Proof.Claims.lean ====
/- Hand-written, untrusted. The five claims, one by one. -/
module

public import proofs.«01_k».proof.Defs
public import proofs.«01_k».proof.Proof.KernelFrame
public import proofs.«01_k».proof.Proof.IdealArray
public import proofs.«01_k».proof.Proof.RefValue
public import Idealize.ShloMosaic.Lib.Bf16PairInverse
public import Idealize.ShloMosaic.Lib.Quiescent

@[expose] public section

noncomputable section

namespace Cert.Proof

open Idealize.ShloMosaic Idealize.ShloMosaic.TcCoe Idealize.SL.Sem
open Cert.Hand

/-- The kernel's frame. -/
theorem frame_p : Cert.quiescent_Kernel := fun m ρ _ => Cert.Kernel.Hand.frame m ρ

/-- The idealised kernel's frame. -/
theorem frame_pi : Cert.quiescent_KernelIdeal := fun m ρ _ => Cert.KernelIdeal.Hand.frame m ρ

/-- The idealised reference's frame. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The five rewrites of the ideal pass: the buffers of words read as pairs, the packing of two floats into a word, and the
    reading of rows of words as rows of pairs, at three shapes. -/
theorem preserves : Cert.preserves_Kernel_KernelIdeal :=
  open Cert.KernelIdeal IdealRules.bf16_pair in
  ⟨bufferStatement S4x64x2x128 S4x64x1x128, packStatement S64x128, statement S1x64x2x128 S1x64x1x128,
    statement S1x1x2x128 S1x1x1x128, statement S2x128 S1x128⟩

/-- The two results are one function of the arguments. -/
theorem results_eq (w : Vec Ideal Cert.KernelIdeal.S64x4096 .i32) (b : Vec Ideal Cert.KernelIdeal.S14336x1024 .i8)
    (s z : Vec Ideal Cert.KernelIdeal.S14336x64 .bf16) :
    Cert.ReferenceIdeal.Hand.total w b z s = Cert.KernelIdeal.Hand.result w b s z := by
  funext i
  obtain ⟨r, n, rfl⟩ : ∃ (r : Fin 128) (n : Fin 14336), i = ix2 r n := ⟨i 0, i 1, eq_ix2 i⟩
  exact Cert.ReferenceIdeal.Hand.total_apply w b z s r n

/-- The value claim: both programs end with the same result. -/
theorem algebraic : Cert.algebraic_KernelIdeal_ReferenceIdeal := fun m ρ m' ρ' _ hargs =>
  ⟨fun c => Cert.KernelIdeal.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono (fun _ h c => ⟨(h.2.out_eq c 4).trans (Cert.KernelIdeal.Hand.final m c), h.1 c⟩)
      (θ_run_and (Cert.KernelIdeal.Hand.unchanged m ρ) (Cert.KernelIdeal.Hand.run_main m ρ)),
    (θ_run Cert.ReferenceIdeal.defs _ _).mono (fun r h c => ⟨(h c).1.trans (by
        obtain ⟨h0, h1, h2, h3⟩ := hargs c
        refine (Cert.ReferenceIdeal.Hand.result_eq m' c).trans ?_
        rw [h0, h1, h2, h3]
        exact results_eq _ _ _ _), (h c).2⟩)
      (Cert.ReferenceIdeal.Value.run (F := Ideal) m' ρ')⟩

end Cert.Proof

end
-- ==== Proof.RotateModel.lean ====
/- Hand-written, untrusted. The rotation's body, written as seven levels within a strip of 128 columns and five levels between
   strips, and that the values the generated frame names are these. -/
module

public import proofs.«01_k».proof.Proof.Gen.RotateIdeal.Frame

@[expose] public section

set_option maxRecDepth 16384

noncomputable section

namespace Cert.RotateIdeal.Hand

open Idealize.ShloMosaic Idealize.ShloMosaic.TcCoe Idealize.SL.Sem
open Cert.RotateIdeal Cert.RotateIdeal.Gen

variable {F : FTy → Type} [FloatOps F]

/-- Strip `i` of row `l` of a table of coefficients. -/
abbrev strip (l : Fin 12) (i : Fin 32) : Rect S12x4096 :=
  Rect.unit (s := S12x4096) ![l.val, 128 * i.val] S1x128.size fun a => by
    match a with
    | ⟨0, _⟩ => show l.val + 1 ≤ 12; omega
    | ⟨1, _⟩ => show 128 * i.val + 128 ≤ 4096; omega

/-- Strip `i` of the block of sixteen rows. -/
abbrev lane (i : Fin 32) : Rect S16x4096 :=
  Rect.unit (s := S16x4096) ![0, 128 * i.val] S16x128.size fun a => by
    match a with
    | ⟨0, _⟩ => show 0 + 16 ≤ 16; omega
    | ⟨1, _⟩ => show 128 * i.val + 128 ≤ 4096; omega

/-- A strip of coefficients, the same for the sixteen rows. -/
def coef (x : Vec F S12x4096 .f32) (l : Fin 12) (i : Fin 32) : FVec F S16x128 .f32 :=
  broadcastTo S16x128 (shapeCast S1x128 (View.ld x (strip l i)) shapeCasts_S1x128_S1x128) broadcasts_S1x128_S16x128

/-- The strip whose column `c` is column `c xor s` of `v`: a roll one way or the other, as bit `s` of the column says. -/
def swap (s : Nat) (v : FVec F S16x128 .f32) : FVec F S16x128 .f32 :=
  select (cmpi .ne (andi (iota .tc S16x128 32 [1] iota_S16x128_d1_w32) (broadcast S16x128 (BitVec.ofNat 32 s))) (broadcast S16x128 0#32))
    (dynamicRotate 1 (BitVec.ofNat 32 s) none v rotates_S16x128_d1)
    (dynamicRotate 1 (BitVec.ofNat 32 (128 - s)) none v rotates_S16x128_d1)

/-- A level: each column times its first coefficient, plus its partner times its second. -/
def level (x1 x2 : Vec F S12x4096 .f32) (l : Fin 12) (i : Fin 32) (v p : FVec F S16x128 .f32) : FVec F S16x128 .f32 :=
  addf (mulf (coef x1 l i) v) (mulf (coef x2 l i) p)

/-- The strip `2 ^ k` strips away. -/
def flip (k : Fin 5) (i : Fin 32) : Fin 32 := ⟨i.val ^^^ 2 ^ k.val, Nat.xor_lt_two_pow (n := 5) i.isLt
  (Nat.pow_lt_pow_right (by omega) k.isLt)⟩

/-- Strip `i` after `n` of the levels within strips. -/
def low (x0 : Vec F S16x4096 .bf16) (x1 x2 : Vec F S12x4096 .f32) (i : Fin 32) : (n : Nat) → n ≤ 7 → FVec F S16x128 .f32
  | 0, _ => extf .f32 (shapeCast S16x128 (View.ld x0 (lane i)) shapeCasts_S16x128_S16x128) bitsLt_bf16_f32
  | n + 1, h => level x1 x2 ⟨n, by omega⟩ i (low x0 x1 x2 i n (by omega)) (swap (2 ^ n) (low x0 x1 x2 i n (by omega)))

/-- Strip `i` after the levels within strips and `n` of the levels between them. -/
def high (x0 : Vec F S16x4096 .bf16) (x1 x2 : Vec F S12x4096 .f32) : (n : Nat) → n ≤ 5 → Fin 32 → FVec F S16x128 .f32
  | 0, _, i => low x0 x1 x2 i 7 (by omega)
  | n + 1, h, i => level x1 x2 ⟨7 + n, by omega⟩ i (high x0 x1 x2 n (by omega) i) (high x0 x1 x2 n (by omega) (flip ⟨n, by omega⟩ i))

end Cert.RotateIdeal.Hand

end
-- ==== Proof.RotateOut.lean ====
/- Hand-written, untrusted. The body's first result is the strips of the model. -/
module

public import proofs.«01_k».proof.Proof.RotateModel

@[expose] public section

set_option maxRecDepth 65536

noncomputable section

namespace Cert.RotateIdeal.Hand

open Idealize.ShloMosaic Idealize.ShloMosaic.TcCoe Idealize.SL.Sem
open Cert.RotateIdeal Cert.RotateIdeal.Gen

variable {F : FTy → Type} [FloatOps F]

set_option maxHeartbeats 20000000 in
/-- What the body leaves of its first result, strip by strip, the last strip first. -/
theorem out_eq (x0 : Vec F S16x4096 .bf16) (x1 x2 : Vec F S12x4096 .f32) :
    out0_3 x0 x1 x2 = View.canon (List.ofFn fun j : Fin 32 =>
      (⟨lane j.rev, truncf .bf16 (high x0 x1 x2 5 (by omega) j.rev) bitsLt_bf16_f32⟩ : View.Piece (Elt F) S16x4096 .bf16)) := by
  refine congrArg View.canon ?_
  rfl

end Cert.RotateIdeal.Hand

end
-- ==== Proof.RotateSpec.lean ====
/- Hand-written, untrusted. The rotation both programs compute, written once: twelve levels, each of which turns every
   column with its mate, the column whose number differs in one bit. -/
module

public import Idealize.ShloMosaic.PureOps.Ideal
public import Idealize.ShloMosaic.Lib.Pointwise

@[expose] public section

noncomputable section

namespace Cert.Hand

open Idealize.ShloMosaic

/-- The column turned with column `x` at level `l`. -/
def mate (l : Fin 12) (x : Fin 4096) : Fin 4096 :=
  ⟨if x.val / 2 ^ l.val % 2 = 0 then x.val + 2 ^ l.val else x.val - 2 ^ l.val, by
    obtain ⟨l, hl⟩ := l
    obtain ⟨x, hx⟩ := x
    dsimp only
    interval_cases l <;> split <;> omega⟩

/-- The number of the angle that turns column `x` at level `l`. -/
def angle (l : Fin 12) (x : Fin 4096) : Fin 2048 :=
  ⟨x.val / (2 * 2 ^ l.val) * 2 ^ l.val + x.val % 2 ^ l.val, by
    obtain ⟨l, hl⟩ := l
    obtain ⟨x, hx⟩ := x
    dsimp only
    interval_cases l <;> omega⟩

/-- The cosine of a column's angle. -/
def cosAt (θ : Vec Ideal ⟨2, ![12, 2048]⟩ .f32) (l : Fin 12) (x : Fin 4096) : EReal :=
  (FloatOps.hostUnary .cos (θ (ix2 l (angle l x)) : Ideal .f32) : Ideal .f32)

/-- The sine of a column's angle. -/
def sinAt (θ : Vec Ideal ⟨2, ![12, 2048]⟩ .f32) (l : Fin 12) (x : Fin 4096) : EReal :=
  (FloatOps.hostUnary .sin (θ (ix2 l (angle l x)) : Ideal .f32) : Ideal .f32)

/-- The sine with the sign of a column's side: the lower column of a pair takes away what the upper one adds. -/
def sideSin (θ : Vec Ideal ⟨2, ![12, 2048]⟩ .f32) (l : Fin 12) (x : Fin 4096) : EReal :=
  if x.val / 2 ^ l.val % 2 = 0 then -sinAt θ l x else sinAt θ l x

/-- A level: a column times its first coefficient, plus its mate times its second. -/
def turn (c s : Fin 12 → Fin 4096 → EReal) (l : Fin 12) (v : Fin 4096 → EReal) (x : Fin 4096) : EReal :=
  c l x * v x + s l x * v (mate l x)

/-- A row after the first `n` levels. -/
def turned (c s : Fin 12 → Fin 4096 → EReal) (v : Fin 4096 → EReal) : (n : Nat) → n ≤ 12 → Fin 4096 → EReal
  | 0, _ => v
  | n + 1, h => turn c s ⟨n, by omega⟩ (turned c s v n (by omega))

/-- The rotation of row `r`. -/
def rotated (θ : Vec Ideal ⟨2, ![12, 2048]⟩ .f32) (v : Fin 4096 → EReal) : Fin 4096 → EReal :=
  turned (cosAt θ) (sideSin θ) v 12 (by omega)

end Cert.Hand

end
-- ==== Proof.RotateStrips.lean ====
/- Hand-written, untrusted. The strips of the model, element by element: a row after some of the levels. -/
module

public import proofs.«01_k».proof.Proof.RotateModel
public import proofs.«01_k».proof.Proof.RotateSpec

@[expose] public section

noncomputable section

namespace Cert.RotateIdeal.Hand

open Idealize.ShloMosaic Idealize.ShloMosaic.TcCoe Idealize.SL.Sem
open Cert.RotateIdeal Cert.RotateIdeal.Gen Cert.Hand

/-- Column `c` of strip `i`. -/
def col (i : Fin 32) (c : Fin 128) : Fin 4096 := ⟨128 * i.val + c.val, by omega⟩

/-- Column `c`'s mate within a strip, at one of the first seven levels. -/
def near (n : Fin 7) (c : Fin 128) : Fin 128 :=
  ⟨if c.val / 2 ^ n.val % 2 = 0 then c.val + 2 ^ n.val else c.val - 2 ^ n.val, by
    obtain ⟨n, hn⟩ := n
    obtain ⟨c, hc⟩ := c
    dsimp only
    interval_cases n <;> split <;> omega⟩

theorem mate_near (n : Fin 7) (i : Fin 32) (c : Fin 128) : mate ⟨n.val, by omega⟩ (col i c) = col i (near n c) := by
  apply Fin.ext
  obtain ⟨n, hn⟩ := n
  unfold mate near col
  dsimp only
  interval_cases n <;> split <;> split <;> omega

theorem flip_val : ∀ (k : Fin 5) (i : Fin 32),
    (flip k i).val = if i.val / 2 ^ k.val % 2 = 0 then i.val + 2 ^ k.val else i.val - 2 ^ k.val := by decide +kernel

theorem mate_far (k : Fin 5) (i : Fin 32) (c : Fin 128) : mate ⟨7 + k.val, by omega⟩ (col i c) = col (flip k i) c := by
  apply Fin.ext
  have h := flip_val k i
  unfold mate col
  dsimp only
  rw [h]
  obtain ⟨k, hk⟩ := k
  dsimp only
  interval_cases k <;> split <;> split <;> omega

/-- Whether bit `n` of a column's number is set, as the body asks it. -/
theorem bit_eq : ∀ (n : Fin 7) (c : Fin 128),
    IntOp.cmpi .ne (IntOp.andi (BitVec.ofNat 32 c.val) (BitVec.ofNat 32 (2 ^ n.val))) 0#32
      = if c.val / 2 ^ n.val % 2 = 0 then 0#1 else 1#1 := by
  decide +kernel

/-- The roll towards higher columns brings a column whose bit is set its mate. -/
theorem roll_up : ∀ (n : Fin 7) (c : Fin 128), c.val / 2 ^ n.val % 2 ≠ 0 →
    (c.val + 128 - (BitVec.ofNat 32 (2 ^ n.val)).toNat % 128) % 128 = (near n c).val := by
  decide +kernel

/-- The roll towards lower columns brings a column whose bit is not set its mate. -/
theorem roll_down : ∀ (n : Fin 7) (c : Fin 128), c.val / 2 ^ n.val % 2 = 0 →
    (c.val + 128 - (BitVec.ofNat 32 (128 - 2 ^ n.val)).toNat % 128) % 128 = (near n c).val := by
  decide +kernel

theorem swap_apply (n : Fin 7) (v : FVec Ideal S16x128 .f32) (r : Fin 16) (c : Fin 128) :
    swap (2 ^ n.val) v (ix2 r c) = v (ix2 r (near n c)) := by
  unfold swap
  pointwise
  rw [bit_eq]
  by_cases h : c.val / 2 ^ n.val % 2 = 0
  · rw [if_pos h]
    exact congrArg (fun y => v (ix2 r y)) (Fin.ext (roll_down n c h))
  · rw [if_neg h]
    exact congrArg (fun y => v (ix2 r y)) (Fin.ext (roll_up n c h))

theorem coef_apply (x : Vec Ideal S12x4096 .f32) (l : Fin 12) (i : Fin 32) (r : Fin 16) (c : Fin 128) :
    coef x l i (ix2 r c) = x (ix2 l (col i c)) := by
  unfold coef
  pointwise
  rfl

theorem level_apply (x1 x2 : Vec Ideal S12x4096 .f32) (l : Fin 12) (i : Fin 32) (v p : FVec Ideal S16x128 .f32) (r : Fin 16) (c : Fin 128) :
    level x1 x2 l i v p (ix2 r c)
      = (x1 (ix2 l (col i c)) * v (ix2 r c) + x2 (ix2 l (col i c)) * p (ix2 r c) : EReal) := by
  unfold level
  pointwise
  rw [coef_apply, coef_apply]

/-- A row of the block, after `n` levels. -/
abbrev rowAfter (x0 : Vec Ideal S16x4096 .bf16) (x1 x2 : Vec Ideal S12x4096 .f32) (r : Fin 16) (n : Nat) (h : n ≤ 12) : Fin 4096 → EReal :=
  turned (fun l x => x1 (ix2 l x)) (fun l x => x2 (ix2 l x)) (fun x => x0 (ix2 r x)) n h

theorem low_apply (x0 : Vec Ideal S16x4096 .bf16) (x1 x2 : Vec Ideal S12x4096 .f32) (i : Fin 32) (r : Fin 16) :
    ∀ (n : Nat) (h : n ≤ 7) (c : Fin 128), low x0 x1 x2 i n h (ix2 r c) = rowAfter x0 x1 x2 r n (by omega) (col i c)
  | 0, _, c => by
    unfold low
    pointwise
    rfl
  | n + 1, h, c => by
    have e := swap_apply ⟨n, by omega⟩ (low x0 x1 x2 i n (by omega)) r c
    dsimp only at e
    rw [low, level_apply, e, low_apply x0 x1 x2 i r n (by omega) c, low_apply x0 x1 x2 i r n (by omega) (near ⟨n, by omega⟩ c),
      ← mate_near]
    rfl

theorem high_apply (x0 : Vec Ideal S16x4096 .bf16) (x1 x2 : Vec Ideal S12x4096 .f32) (r : Fin 16) (c : Fin 128) :
    ∀ (n : Nat) (h : n ≤ 5) (i : Fin 32), high x0 x1 x2 n h i (ix2 r c) = rowAfter x0 x1 x2 r (7 + n) (by omega) (col i c)
  | 0, _, i => low_apply x0 x1 x2 i r 7 (by omega) c
  | n + 1, h, i => by
    rw [high, level_apply, high_apply x0 x1 x2 r c n (by omega) i, high_apply x0 x1 x2 r c n (by omega) (flip ⟨n, by omega⟩ i),
      ← mate_far]
    rfl

end Cert.RotateIdeal.Hand

end
-- ==== Proof.RotateArray.lean ====
/- Hand-written, untrusted. What the rotation's output array holds after a run, from the arrays the region finds. -/
module

public import proofs.«01_k».proof.Proof.RotateOut
public import proofs.«01_k».proof.Proof.RotateStrips
public import Idealize.ShloMosaic.Lib.Pipeline.ValueKit.Geometry
public import Idealize.ShloMosaic.Lib.Pipeline.ValueKit.Tiles

@[expose] public section

noncomputable section

namespace Cert.RotateIdeal.Hand

open Idealize.ShloMosaic Idealize.ShloMosaic.TcCoe Idealize.SL.Sem
open Cert.RotateIdeal Cert.RotateIdeal.Gen Cert.Hand

variable (m : (ℓ : Loc nD τ sig) → Buf (Elt Ideal) ℓ)

/-- The block the body leaves, element by element. -/
theorem out_apply (x0 : Vec Ideal S16x4096 .bf16) (x1 x2 : Vec Ideal S12x4096 .f32) (r : Fin 16) (x : Fin 4096) :
    out0_3 x0 x1 x2 (ix2 r x) = rowAfter x0 x1 x2 r 12 (by omega) x := by
  rw [out_eq]
  refine View.canon_ofFn_eq_of_forall (fun j : Fin 32 => lane j.rev) _ (ix2 r x) _ ?_ ?_
  · refine ⟨(⟨x.val / 128, by omega⟩ : Fin 32).rev, ?_⟩
    rw [Fin.rev_rev]
    refine Rect.mem_set_unit.mpr fun a => ?_
    match a with
    | ⟨0, _⟩ => exact ⟨Nat.zero_le _, by show r.val < 0 + 16; omega⟩
    | ⟨1, _⟩ => exact ⟨by show 128 * (x.val / 128) ≤ x.val; omega, by show x.val < 128 * (x.val / 128) + 128; omega⟩
  · intro j y hy
    obtain ⟨r', c, rfl⟩ : ∃ (r' : Fin 16) (c : Fin 128), y = ix2 r' c := ⟨y 0, y 1, eq_ix2 y⟩
    have hr : r' = r := by
      have h := congrArg (fun i : S16x4096.Idx => (i 0).val) hy
      apply Fin.ext
      have h' : 0 + 1 * r'.val = r.val := h
      omega
    have hx : col j.rev c = x := by
      have h := congrArg (fun i : S16x4096.Idx => (i 1).val) hy
      apply Fin.ext
      have h' : 128 * j.rev.val + 1 * c.val = x.val := h
      show 128 * j.rev.val + c.val = x.val
      omega
    subst hr hx
    exact high_apply x0 x1 x2 r' c 5 (by omega) j.rev

/-- The array after a run, from the rows and the two tables of coefficients. -/
def result (x : Vec Ideal S128x4096 .bf16) (c s : Vec Ideal S12x4096 .f32) : Vec Ideal S128x4096 .bf16 :=
  fun i => turned (fun l y => c (ix2 l y)) (fun l y => s (ix2 l y)) (fun y => x (ix2 (i 0) y)) 12 (by omega) (i 1)

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)

/-- The row of the array that row `r` of the block at point `t` is. -/
def rowAt (t : Fin cfg0.N) (r : Fin 16) : Fin 128 :=
  ⟨16 * (grid0.coords t 0).val + r.val, by have h : (grid0.coords t 0).val < 8 := (grid0.coords t 0).isLt; omega⟩

theorem block0 (c : Dev nD) (t : Fin cfg0.N) (r : Fin 16) (x : Fin 4096) :
    iblk m c 0 t (ix2 r x) = V m c main_v146 (ix2 (rowAt t r) x) := by
  blk_simp [iblk]
  congr 1
  unfold rowAt
  blk_ext [index0]

theorem block1 (c : Dev nD) (t : Fin cfg0.N) (y : S12x4096.Idx) : iblk m c 1 t y = V m c main_v132 y := by
  blk_simp [iblk]
  congr 1
  blk_ext [index1]

theorem block2 (c : Dev nD) (t : Fin cfg0.N) (y : S12x4096.Idx) : iblk m c 2 t y = V m c main_v145 y := by
  blk_simp [iblk]
  congr 1
  blk_ext [index2]

/-- Where the output's block at point `t` lies. -/
theorem place3 (t : Fin cfg0.N) (r : Fin 16) (x : Fin 4096) :
    (win0_3.blk t).view.emb (ix2 r x) = (ix2 (rowAt t r) x : S128x4096.Idx) := by
  unfold rowAt
  blk_ext [index3]

/-- The output array after a run. -/
theorem final (c : Dev nD) :
    (dats m 0 c).arrAt 3 cfg0.N = result (V m c main_v146) (V m c main_v132) (V m c main_v145) := by
  refine (dats m 0 c).arrAt_eq_of_covers 3 _ (by decide +kernel) fun t hf y => ?_
  blk_simp
  rw [after0_3]
  obtain ⟨r, x, rfl⟩ : ∃ (r : Fin 16) (x : Fin 4096), y = ix2 r x := ⟨y 0, y 1, eq_ix2 y⟩
  refine (out_apply _ _ _ r x).trans ?_
  rw [place3]
  have h1 : (iblk m c 1 t : Vec Ideal S12x4096 .f32) = V m c main_v132 := funext fun y => block1 m c t y
  have h2 : (iblk m c 2 t : Vec Ideal S12x4096 .f32) = V m c main_v145 := funext fun y => block2 m c t y
  rw [h1, h2]
  unfold rowAfter
  simp only [block0]
  rfl

end Cert.RotateIdeal.Hand

end
-- ==== Proof.RotateReads.lean ====
/- Hand-written, untrusted. What one level's array operations read, at any width `s` and number `a` of its groups: an angle out of
   the table, two halves laid side by side, a half taken out again. -/
module

public import proofs.«01_k».proof.Proof.RotateSpec
public import Idealize.ShloMosaic.Lib.Pipeline.Value
public import Idealize.ShloMosaic.Lib.Pipeline.ValueKit.Tiles

@[expose] public section

noncomputable section

namespace Cert.Hand

open Idealize.ShloMosaic

section Reads

variable {α : Type} {a s : Nat}

/-- A column's group, side and place in its half. -/
theorem place_eq (s x : Nat) : (x / (2 * s) * 2 + x / s % 2) * s + x % s = x := by
  have h1 : x / (2 * s) = x / s / 2 := by rw [Nat.mul_comm, Nat.div_div_eq_div_mul]
  rw [h1, show x / s / 2 * 2 + x / s % 2 = x / s by omega]
  exact Nat.div_add_mod' x s

/-- The number of a column's group. -/
def group (has : a * (2 * s) = 4096) (x : Fin 4096) : Fin a :=
  ⟨x.val / (2 * s), Nat.div_lt_of_lt_mul (by rw [Nat.mul_comm, has]; exact x.isLt)⟩

/-- A column's place in its half. -/
def slot (has : a * (2 * s) = 4096) (x : Fin 4096) : Fin s :=
  ⟨x.val % s, Nat.mod_lt _ (Nat.pos_of_ne_zero fun h => by subst h; simp at has)⟩

/-- The angle of a group's place, as it lies in the table. -/
def angleOf (has : a * (2 * s) = 4096) (p : Fin a) (q : Fin s) : Fin 2048 :=
  ⟨p.val * s + q.val, by
    have h1 : (p.val + 1) * s ≤ a * s := Nat.mul_le_mul_right s p.isLt
    have h2 : a * (2 * s) = 2 * (a * s) := by ring
    have h3 : (p.val + 1) * s = p.val * s + s := by ring
    have := q.isLt
    omega⟩

/-- The column of a group's place, on side `b`. -/
def colOf (has : a * (2 * s) = 4096) (p : Fin a) (b : Fin 2) (q : Fin s) : Fin 4096 :=
  ⟨(p.val * 2 + b.val) * s + q.val, by
    have h1 : (p.val * 2 + b.val + 1) * s ≤ a * 2 * s := Nat.mul_le_mul_right s (by have := p.isLt; have := b.isLt; omega)
    have h2 : a * (2 * s) = a * 2 * s := by ring
    have h3 : (p.val * 2 + b.val + 1) * s = (p.val * 2 + b.val) * s + s := by ring
    have := q.isLt
    omega⟩

theorem colOf_group (has : a * (2 * s) = 4096) (x : Fin 4096) (b : Fin 2) (hb : b.val = x.val / s % 2) :
    colOf has (group has x) b (slot has x) = x := by
  apply Fin.ext
  show (x.val / (2 * s) * 2 + b.val) * s + x.val % s = x.val
  rw [hb]
  exact place_eq s x.val

/-- A row of the table, cut into groups of three axes. -/
theorem angle_read3 (has : a * (2 * s) = 4096) (θ : (⟨2, ![12, 2048]⟩ : Shape).Idx → α) (l : Fin 12) (off : Fin 2 → Nat)
    (hoff : off = ![l.val, 0])
    (h1 : (⟨2, ![12, 2048]⟩ : Shape).Slices off ⟨2, ![1, 2048]⟩)
    (h2 : (⟨2, ![1, 2048]⟩ : Shape).ShapeCasts ⟨1, ![2048]⟩) (h3 : (⟨1, ![2048]⟩ : Shape).ShapeCasts ⟨3, ![a, 1, s]⟩)
    (p : Fin a) (q : Fin s) :
    shapeCast ⟨3, ![a, 1, s]⟩ (shapeCast ⟨1, ![2048]⟩ (extractStridedSlice ⟨2, ![1, 2048]⟩ off θ h1) h2) h3 (ix3 p 0 q)
      = θ (ix2 l (angleOf has p q)) := by
  subst hoff
  rw [shapeCast_apply _ h3 (ix3 p 0 q) (ix1 (angleOf has p q)) (by
      rw [Shape.rowMajor_val_three, Shape.rowMajor_val_one]
      show p.val * s + q.val = (p.val * 1 + 0) * s + q.val
      ring),
    shapeCast_apply _ h2 (ix1 (angleOf has p q)) (ix2 0 (angleOf has p q)) (by
      rw [Shape.rowMajor_val_two, Shape.rowMajor_val_one]
      show 0 * 2048 + (angleOf has p q).val = (angleOf has p q).val
      omega)]
  refine extractStridedSlice_apply _ _ _ _ _ fun b => ?_
  match b with
  | ⟨0, _⟩ => exact (Nat.add_zero l.val).symm
  | ⟨1, _⟩ => exact (Nat.zero_add _).symm

/-- A row of the table, cut into groups of two axes. -/
theorem angle_read2 (has : a * (2 * s) = 4096) (θ : (⟨2, ![12, 2048]⟩ : Shape).Idx → α) (l : Fin 12) (off : Fin 2 → Nat)
    (hoff : off = ![l.val, 0])
    (h1 : (⟨2, ![12, 2048]⟩ : Shape).Slices off ⟨2, ![1, 2048]⟩)
    (h2 : (⟨2, ![1, 2048]⟩ : Shape).ShapeCasts ⟨1, ![2048]⟩) (h3 : (⟨1, ![2048]⟩ : Shape).ShapeCasts ⟨2, ![a, s]⟩)
    (p : Fin a) (q : Fin s) :
    shapeCast ⟨2, ![a, s]⟩ (shapeCast ⟨1, ![2048]⟩ (extractStridedSlice ⟨2, ![1, 2048]⟩ off θ h1) h2) h3 (ix2 p q)
      = θ (ix2 l (angleOf has p q)) := by
  subst hoff
  rw [shapeCast_apply _ h3 (ix2 p q) (ix1 (angleOf has p q)) (by
      rw [Shape.rowMajor_val_two, Shape.rowMajor_val_one]
      rfl),
    shapeCast_apply _ h2 (ix1 (angleOf has p q)) (ix2 0 (angleOf has p q)) (by
      rw [Shape.rowMajor_val_two, Shape.rowMajor_val_one]
      show 0 * 2048 + (angleOf has p q).val = (angleOf has p q).val
      omega)]
  refine extractStridedSlice_apply _ _ _ _ _ fun b => ?_
  match b with
  | ⟨0, _⟩ => exact (Nat.add_zero l.val).symm
  | ⟨1, _⟩ => exact (Nat.zero_add _).symm

/-- The angle of a column is the angle of its group's place. -/
theorem angleOf_eq (has : a * (2 * s) = 4096) (l : Fin 12) (hs : s = 2 ^ l.val) (x : Fin 4096) :
    angleOf has (group has x) (slot has x) = angle l x := by
  subst hs
  rfl

/-- Two halves laid side by side in every group, read at a column: the lower half of a group, or the upper. -/
theorem pair_row (has : a * (2 * s) = 4096) (u w : (⟨3, ![a, 1, s]⟩ : Shape).Idx → α)
    (hc : Shape.Concatenates [⟨3, ![a, 1, s]⟩, ⟨3, ![a, 1, s]⟩] ⟨3, ![a, 2, s]⟩ 1)
    (h1 : (⟨3, ![a, 2, s]⟩ : Shape).ShapeCasts ⟨1, ![4096]⟩)
    (hb : (⟨1, ![4096]⟩ : Shape).BroadcastsInDim ⟨2, ![1, 4096]⟩ ![1]) (x : Fin 4096) :
    broadcastInDim ⟨2, ![1, 4096]⟩ ![1] hb
        (shapeCast ⟨1, ![4096]⟩ (concatenate ⟨3, ![a, 2, s]⟩ 1 [⟨⟨3, ![a, 1, s]⟩, u⟩, ⟨⟨3, ![a, 1, s]⟩, w⟩] hc) h1) (ix2 0 x)
      = if x.val / s % 2 = 0 then u (ix3 (group has x) 0 (slot has x)) else w (ix3 (group has x) 0 (slot has x)) := by
  rw [broadcastInDim_apply _ _ _ _ (ix1 x) (by
    intro b
    match b with
    | ⟨0, _⟩ => rfl)]
  have hside : x.val / s % 2 < 2 := Nat.mod_lt _ (by omega)
  rw [shapeCast_apply _ h1 (ix1 x) (ix3 (group has x) ⟨x.val / s % 2, hside⟩ (slot has x)) (by
    rw [Shape.rowMajor_val_three, Shape.rowMajor_val_one]
    exact place_eq s x.val)]
  split
  · next h =>
    refine concatenate_pair_apply_left (t := ⟨3, ![a, 2, s]⟩) (s₁ := ⟨3, ![a, 1, s]⟩) (s₂ := ⟨3, ![a, 1, s]⟩) 1 u w hc _ rfl _ fun b => ?_
    match b with
    | ⟨0, _⟩ => rfl
    | ⟨1, _⟩ => exact h.symm
    | ⟨2, _⟩ => rfl
  · next h =>
    refine concatenate_pair_apply_right (t := ⟨3, ![a, 2, s]⟩) (s₁ := ⟨3, ![a, 1, s]⟩) (s₂ := ⟨3, ![a, 1, s]⟩) 1 u w hc _ rfl rfl _ (fun b hb => ?_) ?_
    · match b with
      | ⟨0, _⟩ => rfl
      | ⟨1, _⟩ => exact absurd rfl hb
      | ⟨2, _⟩ => rfl
    · show 0 + 1 = x.val / s % 2
      omega

/-- The same of a batch of rows. -/
theorem pair_rows (has : a * (2 * s) = 4096) (u w : (⟨3, ![128, a, s]⟩ : Shape).Idx → α)
    (hb : (⟨3, ![128, a, s]⟩ : Shape).BroadcastsInDim ⟨4, ![128, a, 1, s]⟩ ![0, 1, 3])
    (hc : Shape.Concatenates [⟨4, ![128, a, 1, s]⟩, ⟨4, ![128, a, 1, s]⟩] ⟨4, ![128, a, 2, s]⟩ 2)
    (h1 : (⟨4, ![128, a, 2, s]⟩ : Shape).ShapeCasts ⟨2, ![128, 4096]⟩) (r : Fin 128) (x : Fin 4096) :
    shapeCast ⟨2, ![128, 4096]⟩ (concatenate ⟨4, ![128, a, 2, s]⟩ 2
        [⟨⟨4, ![128, a, 1, s]⟩, broadcastInDim ⟨4, ![128, a, 1, s]⟩ ![0, 1, 3] hb u⟩,
          ⟨⟨4, ![128, a, 1, s]⟩, broadcastInDim ⟨4, ![128, a, 1, s]⟩ ![0, 1, 3] hb w⟩] hc) h1 (ix2 r x)
      = if x.val / s % 2 = 0 then u (ix3 r (group has x) (slot has x)) else w (ix3 r (group has x) (slot has x)) := by
  have hside : x.val / s % 2 < 2 := Nat.mod_lt _ (by omega)
  have hread : ∀ v : (⟨3, ![128, a, s]⟩ : Shape).Idx → α,
      broadcastInDim ⟨4, ![128, a, 1, s]⟩ ![0, 1, 3] hb v (ix4 r (group has x) 0 (slot has x)) = v (ix3 r (group has x) (slot has x)) := by
    intro v
    refine broadcastInDim_apply _ _ _ _ _ fun b => ?_
    match b with
    | ⟨0, _⟩ => rfl
    | ⟨1, _⟩ =>
      show (group has x).val = if a = 1 then 0 else (group has x).val
      split
      · have := (group has x).isLt; omega
      · rfl
    | ⟨2, _⟩ =>
      show (slot has x).val = if s = 1 then 0 else (slot has x).val
      split
      · have := (slot has x).isLt; omega
      · rfl
  rw [shapeCast_apply _ h1 (ix2 r x) (ix4 r (group has x) ⟨x.val / s % 2, hside⟩ (slot has x)) (by
    rw [Shape.rowMajor_val_four, Shape.rowMajor_val_two]
    show ((r.val * a + x.val / (2 * s)) * 2 + x.val / s % 2) * s + x.val % s = r.val * 4096 + x.val
    calc ((r.val * a + x.val / (2 * s)) * 2 + x.val / s % 2) * s + x.val % s
        = r.val * (a * (2 * s)) + ((x.val / (2 * s) * 2 + x.val / s % 2) * s + x.val % s) := by ring
      _ = _ := by rw [place_eq, has])]
  split
  · next h =>
    rw [← hread u]
    refine concatenate_pair_apply_left (t := ⟨4, ![128, a, 2, s]⟩) (s₁ := ⟨4, ![128, a, 1, s]⟩) (s₂ := ⟨4, ![128, a, 1, s]⟩) 2 _ _ hc _ rfl _ fun b => ?_
    match b with
    | ⟨0, _⟩ => rfl
    | ⟨1, _⟩ => rfl
    | ⟨2, _⟩ => exact h.symm
    | ⟨3, _⟩ => rfl
  · next h =>
    rw [← hread w]
    refine concatenate_pair_apply_right (t := ⟨4, ![128, a, 2, s]⟩) (s₁ := ⟨4, ![128, a, 1, s]⟩) (s₂ := ⟨4, ![128, a, 1, s]⟩) 2 _ _ hc _ rfl rfl _ (fun b hb => ?_) ?_
    · match b with
      | ⟨0, _⟩ => rfl
      | ⟨1, _⟩ => rfl
      | ⟨2, _⟩ => exact absurd rfl hb
      | ⟨3, _⟩ => rfl
    · show 0 + 1 = x.val / s % 2
      omega

/-- A batch of rows cut into groups, sides and places. -/
theorem cut_read (has : a * (2 * s) = 4096) (v : (⟨2, ![128, 4096]⟩ : Shape).Idx → α)
    (h1 : (⟨2, ![128, 4096]⟩ : Shape).ShapeCasts ⟨4, ![128, a, 2, s]⟩) (r : Fin 128) (p : Fin a) (b : Fin 2) (q : Fin s) :
    shapeCast ⟨4, ![128, a, 2, s]⟩ v h1 (ix4 r p b q) = v (ix2 r (colOf has p b q)) := by
  refine shapeCast_apply _ h1 _ _ ?_
  rw [Shape.rowMajor_val_four, Shape.rowMajor_val_two]
  show r.val * 4096 + ((p.val * 2 + b.val) * s + q.val) = ((r.val * a + p.val) * 2 + b.val) * s + q.val
  rw [← has]
  ring

/-- One side taken out of a cut batch. -/
theorem half_read (v : (⟨4, ![128, a, 2, s]⟩ : Shape).Idx → α) (b : Fin 2) (off : Fin 4 → Nat) (hoff : off = ![0, 0, b.val, 0])
    (h1 : (⟨4, ![128, a, 2, s]⟩ : Shape).Slices off ⟨4, ![128, a, 1, s]⟩)
    (h2 : (⟨4, ![128, a, 1, s]⟩ : Shape).ShapeCasts ⟨3, ![128, a, s]⟩) (r : Fin 128) (p : Fin a) (q : Fin s) :
    shapeCast ⟨3, ![128, a, s]⟩ (extractStridedSlice ⟨4, ![128, a, 1, s]⟩ off v h1) h2 (ix3 r p q) = v (ix4 r p b q) := by
  subst hoff
  rw [shapeCast_apply _ h2 (ix3 r p q) (ix4 r p 0 q) (by
    rw [Shape.rowMajor_val_four, Shape.rowMajor_val_three]
    show ((r.val * a + p.val) * 1 + 0) * s + q.val = (r.val * a + p.val) * s + q.val
    ring)]
  refine extractStridedSlice_apply _ _ _ _ _ fun k => ?_
  match k with
  | ⟨0, _⟩ => exact (Nat.zero_add _).symm
  | ⟨1, _⟩ => exact (Nat.zero_add _).symm
  | ⟨2, _⟩ => exact (Nat.add_zero _).symm
  | ⟨3, _⟩ => exact (Nat.zero_add _).symm

/-- A level's coefficients spread over a batch of rows. -/
theorem spread_read (v : (⟨2, ![a, s]⟩ : Shape).Idx → α)
    (h1 : (⟨2, ![a, s]⟩ : Shape).BroadcastsInDim ⟨3, ![1, a, s]⟩ ![1, 2])
    (h2 : (⟨3, ![1, a, s]⟩ : Shape).BroadcastsInDim ⟨3, ![128, a, s]⟩ ![0, 1, 2]) (r : Fin 128) (p : Fin a) (q : Fin s) :
    broadcastInDim ⟨3, ![128, a, s]⟩ ![0, 1, 2] h2 (broadcastInDim ⟨3, ![1, a, s]⟩ ![1, 2] h1 v) (ix3 r p q) = v (ix2 p q) := by
  have hp : p.val = if a = 1 then 0 else p.val := by
    split
    · have := p.isLt; omega
    · rfl
  have hq : q.val = if s = 1 then 0 else q.val := by
    split
    · have := q.isLt; omega
    · rfl
  rw [broadcastInDim_apply _ h2 _ _ (ix3 0 p q) (by
    intro k
    match k with
    | ⟨0, _⟩ => rfl
    | ⟨1, _⟩ => exact hp
    | ⟨2, _⟩ => exact hq)]
  refine broadcastInDim_apply _ h1 _ _ _ fun k => ?_
  match k with
  | ⟨0, _⟩ => exact hp
  | ⟨1, _⟩ => exact hq

end Reads

end Cert.Hand

end
-- ==== Proof.RotateTables.lean ====
/- Hand-written, untrusted. The two tables of coefficients the host lines leave for the kernel, entry by entry. -/
module

public import proofs.«01_k».proof.Proof.Gen.RotateIdeal.Frame
public import proofs.«01_k».proof.Proof.RotateReads
public import Idealize.ShloMosaic.Lib.StableHlo.RunRead
public import Idealize.ShloMosaic.Lib.StableHlo.ReadAt

@[expose] public section

set_option maxRecDepth 65536
set_option maxHeartbeats 20000000

noncomputable section

namespace Cert.RotateIdeal.Hand

open Idealize.ShloMosaic Idealize.ShloMosaic.TcCoe Idealize.SL.Sem
open Cert.RotateIdeal Cert.RotateIdeal.Gen Cert.Hand

/-- One row of a table of twelve. -/
theorem row_piece (k : Fin 12) (g : Fin 12 → Fin 4096 → EReal) (f : S1x4096.Idx → EReal)
    (hf : ∀ x, f (ix2 0 x) = g k x) (l : Fin 12) (x : Fin 4096) :
    PieceAt (t := S12x4096) 0 (ix2 l x) (g l x) S1x4096 f k.val := by
  intro hl hr i hi0 hix
  obtain ⟨p, y, rfl⟩ : ∃ (p : Fin 1) (y : Fin 4096), i = ix2 p y := ⟨i 0, i 1, eq_ix2 i⟩
  obtain rfl : p = 0 := Subsingleton.elim _ _
  obtain rfl : y = x := Fin.ext (hix 1 (by decide))
  obtain rfl : l = k := Fin.ext hl
  exact hf y

section Rows

variable {a s : Nat} (θ : Vec Ideal ⟨2, ![12, 2048]⟩ .f32)

/-- A row of cosines. -/
theorem cos_row (has : a * (2 * s) = 4096) (l : Fin 12) (hs : s = 2 ^ l.val) (x : Fin 4096)
    (u w : (⟨3, ![a, 1, s]⟩ : Shape).Idx → EReal)
    (hu : ∀ p q, u (ix3 p 0 q) = (FloatOps.hostUnary .cos (θ (ix2 l (angleOf has p q)) : Ideal .f32) : Ideal .f32))
    (hw : ∀ p q, w (ix3 p 0 q) = (FloatOps.hostUnary .cos (θ (ix2 l (angleOf has p q)) : Ideal .f32) : Ideal .f32)) :
    (if x.val / s % 2 = 0 then u (ix3 (group has x) 0 (slot has x)) else w (ix3 (group has x) 0 (slot has x))) = cosAt θ l x := by
  rw [hu, hw, ite_self, angleOf_eq has l hs]
  rfl

/-- A row of sines with their signs. -/
theorem sin_row (has : a * (2 * s) = 4096) (l : Fin 12) (hs : s = 2 ^ l.val) (x : Fin 4096)
    (u w : (⟨3, ![a, 1, s]⟩ : Shape).Idx → EReal)
    (hu : ∀ p q, u (ix3 p 0 q) = -((FloatOps.hostUnary .sin (θ (ix2 l (angleOf has p q)) : Ideal .f32) : Ideal .f32) : EReal))
    (hw : ∀ p q, w (ix3 p 0 q) = (FloatOps.hostUnary .sin (θ (ix2 l (angleOf has p q)) : Ideal .f32) : Ideal .f32)) :
    (if x.val / s % 2 = 0 then u (ix3 (group has x) 0 (slot has x)) else w (ix3 (group has x) 0 (slot has x))) = sideSin θ l x := by
  rw [hu, hw, angleOf_eq has l hs, hs]
  rfl

end Rows

variable (m : (ℓ : Loc nD τ sig) → Buf (Elt Ideal) ℓ)

/-- What a buffer holds after the first `n` host lines. -/
abbrev found (c : Dev nD) (n : Nat) (b : Ref sig .tc) : Buf (Elt Ideal) ((c : Thread nD τ).loc b) :=
  StableHlo.upto hostOps0 (fun b => m (c, b)) n b

/-- The table of cosines. -/
theorem cos_table (c : Dev nD) (l : Fin 12) (x : Fin 4096) :
    V m c main_v132 (ix2 l x) = cosAt (m ((c : Thread nD τ).loc main_arg1)) l x := by
  unfold V
  unfold_abbrev_sides
  after_reads_simp
  refine concatenate_unit_eq (t := S12x4096) 0 _ _ (ix2 l x) _ rfl
    (concatAt_cons _ _ _ _ (row_piece 0 _ (found m c 132 main_v120) ?_ l x)
    (concatAt_cons _ _ _ _ (row_piece 1 _ (found m c 132 main_v121) ?_ l x)
    (concatAt_cons _ _ _ _ (row_piece 2 _ (found m c 132 main_v122) ?_ l x)
    (concatAt_cons _ _ _ _ (row_piece 3 _ (found m c 132 main_v123) ?_ l x)
    (concatAt_cons _ _ _ _ (row_piece 4 _ (found m c 132 main_v124) ?_ l x)
    (concatAt_cons _ _ _ _ (row_piece 5 _ (found m c 132 main_v125) ?_ l x)
    (concatAt_cons _ _ _ _ (row_piece 6 _ (found m c 132 main_v126) ?_ l x)
    (concatAt_cons _ _ _ _ (row_piece 7 _ (found m c 132 main_v127) ?_ l x)
    (concatAt_cons _ _ _ _ (row_piece 8 _ (found m c 132 main_v128) ?_ l x)
    (concatAt_cons _ _ _ _ (row_piece 9 _ (found m c 132 main_v129) ?_ l x)
    (concatAt_cons _ _ _ _ (row_piece 10 _ (found m c 132 main_v130) ?_ l x)
    (concatAt_cons _ _ _ _ (row_piece 11 _ (found m c 132 main_v131) ?_ l x)
    (concatAt_nil _ _ _ _)))))))))))))
  all_goals
    intro x
    after_reads_simp
    refine Eq.trans (pair_row (by decide) _ _ _ (by decide) _ x) ?_
    refine cos_row _ _ _ (by rfl) x _ _ ?_ ?_ <;>
      (intro p q
       after_reads_simp
       refine congrArg (FloatOps.hostUnary .cos) ?_
       exact angle_read3 _ _ _ _ (by rfl) (by decide) (by decide) (by decide) p q)

/-- The table of sines. -/
theorem sin_table (c : Dev nD) (l : Fin 12) (x : Fin 4096) :
    V m c main_v145 (ix2 l x) = sideSin (m ((c : Thread nD τ).loc main_arg1)) l x := by
  unfold V
  unfold_abbrev_sides
  after_reads_simp
  refine concatenate_unit_eq (t := S12x4096) 0 _ _ (ix2 l x) _ rfl
    (concatAt_cons _ _ _ _ (row_piece 0 _ (found m c 145 main_v133) ?_ l x)
    (concatAt_cons _ _ _ _ (row_piece 1 _ (found m c 145 main_v134) ?_ l x)
    (concatAt_cons _ _ _ _ (row_piece 2 _ (found m c 145 main_v135) ?_ l x)
    (concatAt_cons _ _ _ _ (row_piece 3 _ (found m c 145 main_v136) ?_ l x)
    (concatAt_cons _ _ _ _ (row_piece 4 _ (found m c 145 main_v137) ?_ l x)
    (concatAt_cons _ _ _ _ (row_piece 5 _ (found m c 145 main_v138) ?_ l x)
    (concatAt_cons _ _ _ _ (row_piece 6 _ (found m c 145 main_v139) ?_ l x)
    (concatAt_cons _ _ _ _ (row_piece 7 _ (found m c 145 main_v140) ?_ l x)
    (concatAt_cons _ _ _ _ (row_piece 8 _ (found m c 145 main_v141) ?_ l x)
    (concatAt_cons _ _ _ _ (row_piece 9 _ (found m c 145 main_v142) ?_ l x)
    (concatAt_cons _ _ _ _ (row_piece 10 _ (found m c 145 main_v143) ?_ l x)
    (concatAt_cons _ _ _ _ (row_piece 11 _ (found m c 145 main_v144) ?_ l x)
    (concatAt_nil _ _ _ _)))))))))))))
  all_goals
    intro x
    after_reads_simp
    refine Eq.trans (pair_row (by decide) _ _ _ (by decide) _ x) ?_
    refine sin_row _ _ _ (by rfl) x _ _ ?_ ?_
    · intro p q
      after_reads_simp
      refine congrArg (fun y : Ideal .f32 => (FloatOps.hostNegf (FloatOps.hostUnary .sin y) : Ideal .f32)) ?_
      exact angle_read3 _ _ _ _ (by rfl) (by decide) (by decide) (by decide) p q
    · intro p q
      after_reads_simp
      refine congrArg (FloatOps.hostUnary .sin) ?_
      exact angle_read3 _ _ _ _ (by rfl) (by decide) (by decide) (by decide) p q

/-- The rows the kernel reads are the argument's. -/
theorem rows_read (c : Dev nD) (r : Fin 128) (x : Fin 4096) :
    V m c main_v146 (ix2 r x) = m ((c : Thread nD τ).loc main_arg0) (ix3 0 r x) := by
  unfold V
  unfold_abbrev_sides
  after_reads_simp
  refine shapeCast_apply _ _ _ _ ?_
  refine (Shape.rowMajor_val_three (d := ![1, 128, 4096]) (ix3 0 r x)).trans
    (Eq.trans ?_ (Shape.rowMajor_val_two (d := ![128, 4096]) (ix2 r x)).symm)
  show (0 * 128 + r.val) * 4096 + x.val = r.val * 4096 + x.val
  ring

end Cert.RotateIdeal.Hand

end
-- ==== Proof.RotateRef.lean ====
/- Hand-written, untrusted. What the reference of the rotation computes, element by element: twelve levels, one after the other. -/
module

public import proofs.«01_k».proof.Proof.RotateReads
public import proofs.«01_k».proof.Proof.Gen.RotateReferenceIdeal.Run

@[expose] public section

set_option maxRecDepth 65536
set_option maxHeartbeats 20000000

noncomputable section

namespace Cert.RotateReferenceIdeal.Hand

open Idealize.ShloMosaic Idealize.ShloMosaic.TcCoe Idealize.SL.Sem
open Cert.RotateReferenceIdeal Cert.RotateReferenceIdeal.Gen Cert.RotateReferenceIdeal.Value Cert.Hand

section Level

variable {a s : Nat}

/-- A row `f` as it lies in a batch cut into groups, sides and places. -/
def Cut (has : a * (2 * s) = 4096) (r : Fin 128) (v : FVec Ideal ⟨4, ![128, a, 2, s]⟩ .f32) (f : Fin 4096 → EReal) : Prop :=
  ∀ p b q, v (ix4 r p b q) = f (colOf has p b q)

theorem colOf_mate (has : a * (2 * s) = 4096) (l : Fin 12) (hs : s = 2 ^ l.val) (x : Fin 4096) (b : Fin 2)
    (hb : b.val = 1 - x.val / s % 2) : colOf has (group has x) b (slot has x) = mate l x := by
  apply Fin.ext
  show (x.val / (2 * s) * 2 + b.val) * s + x.val % s = if x.val / 2 ^ l.val % 2 = 0 then x.val + 2 ^ l.val else x.val - 2 ^ l.val
  rw [← hs]
  have h := place_eq s x.val
  split
  · next h0 =>
    rw [h0] at hb h
    rw [hb]
    rw [show (x.val / (2 * s) * 2 + (1 - 0)) * s = (x.val / (2 * s) * 2 + 0) * s + s by ring]
    omega
  · next h0 =>
    have h1 : x.val / s % 2 = 1 := by omega
    rw [h1] at hb h
    rw [hb]
    rw [show (x.val / (2 * s) * 2 + 1) * s = (x.val / (2 * s) * 2 + (1 - 1)) * s + s by ring] at h
    omega

/-- One level of the reference, read at an element. -/
theorem level_read (has : a * (2 * s) = 4096) (l : Fin 12) (hs : s = 2 ^ l.val) (θ : FVec Ideal ⟨2, ![12, 2048]⟩ .f32)
    (r : Fin 128) (v : FVec Ideal ⟨4, ![128, a, 2, s]⟩ .f32) (f : Fin 4096 → EReal) (hv : Cut has r v f) (x : Fin 4096)
    (off : Fin 2 → Nat) (hoff : off = ![l.val, 0])
    (e1 : (⟨2, ![12, 2048]⟩ : Shape).Slices off ⟨2, ![1, 2048]⟩ := by decide)
    (e2 : (⟨2, ![1, 2048]⟩ : Shape).ShapeCasts ⟨1, ![2048]⟩ := by decide)
    (e3 : (⟨1, ![2048]⟩ : Shape).ShapeCasts ⟨2, ![a, s]⟩ := by decide)
    (e4 : (⟨4, ![128, a, 2, s]⟩ : Shape).Slices ![0, 0, 0, 0] ⟨4, ![128, a, 1, s]⟩ := by decide)
    (e5 : (⟨4, ![128, a, 2, s]⟩ : Shape).Slices ![0, 0, 1, 0] ⟨4, ![128, a, 1, s]⟩ := by decide)
    (e6 : (⟨4, ![128, a, 1, s]⟩ : Shape).ShapeCasts ⟨3, ![128, a, s]⟩ := by decide)
    (e7 : (⟨2, ![a, s]⟩ : Shape).BroadcastsInDim ⟨3, ![1, a, s]⟩ ![1, 2] := by decide)
    (e8 : (⟨3, ![1, a, s]⟩ : Shape).BroadcastsInDim ⟨3, ![128, a, s]⟩ ![0, 1, 2] := by decide)
    (e9 : (⟨3, ![128, a, s]⟩ : Shape).BroadcastsInDim ⟨4, ![128, a, 1, s]⟩ ![0, 1, 3] := by decide)
    (e10 : Shape.Concatenates [⟨4, ![128, a, 1, s]⟩, ⟨4, ![128, a, 1, s]⟩] ⟨4, ![128, a, 2, s]⟩ 2 := by decide)
    (e11 : (⟨4, ![128, a, 2, s]⟩ : Shape).ShapeCasts ⟨2, ![128, 4096]⟩ := by decide)
    (A B : FVec Ideal ⟨3, ![128, a, s]⟩ .f32)
    (hA : A = shapeCast ⟨3, ![128, a, s]⟩ (extractStridedSlice ⟨4, ![128, a, 1, s]⟩ ![0, 0, 0, 0] v e4) e6)
    (hB : B = shapeCast ⟨3, ![128, a, s]⟩ (extractStridedSlice ⟨4, ![128, a, 1, s]⟩ ![0, 0, 1, 0] v e5) e6)
    (C S : FVec Ideal ⟨2, ![a, s]⟩ .f32)
    (hC : C = Host.cos (shapeCast ⟨2, ![a, s]⟩ (shapeCast ⟨1, ![2048]⟩ (extractStridedSlice ⟨2, ![1, 2048]⟩ off θ e1) e2) e3))
    (hS : S = Host.sin (shapeCast ⟨2, ![a, s]⟩ (shapeCast ⟨1, ![2048]⟩ (extractStridedSlice ⟨2, ![1, 2048]⟩ off θ e1) e2) e3)) :
    shapeCast ⟨2, ![128, 4096]⟩ (concatenate ⟨4, ![128, a, 2, s]⟩ 2
        [⟨⟨4, ![128, a, 1, s]⟩, broadcastInDim ⟨4, ![128, a, 1, s]⟩ ![0, 1, 3] e9
            (subf (mulf (broadcastInDim ⟨3, ![128, a, s]⟩ ![0, 1, 2] e8 (broadcastInDim ⟨3, ![1, a, s]⟩ ![1, 2] e7 C)) A)
              (mulf (broadcastInDim ⟨3, ![128, a, s]⟩ ![0, 1, 2] e8 (broadcastInDim ⟨3, ![1, a, s]⟩ ![1, 2] e7 S)) B))⟩,
          ⟨⟨4, ![128, a, 1, s]⟩, broadcastInDim ⟨4, ![128, a, 1, s]⟩ ![0, 1, 3] e9
            (addf (mulf (broadcastInDim ⟨3, ![128, a, s]⟩ ![0, 1, 2] e8 (broadcastInDim ⟨3, ![1, a, s]⟩ ![1, 2] e7 S)) A)
              (mulf (broadcastInDim ⟨3, ![128, a, s]⟩ ![0, 1, 2] e8 (broadcastInDim ⟨3, ![1, a, s]⟩ ![1, 2] e7 C)) B))⟩] e10) e11
        (ix2 r x)
      = turn (cosAt θ) (sideSin θ) l f x := by
  rw [pair_rows has]
  have hCr : C (ix2 (group has x) (slot has x)) = cosAt θ l x := by
    rw [hC]
    refine (congrArg (FloatOps.hostUnary .cos) (angle_read2 has θ l off hoff e1 e2 e3 _ _)).trans ?_
    rw [angleOf_eq has l hs]
    rfl
  have hSr : S (ix2 (group has x) (slot has x)) = sinAt θ l x := by
    rw [hS]
    refine (congrArg (FloatOps.hostUnary .sin) (angle_read2 has θ l off hoff e1 e2 e3 _ _)).trans ?_
    rw [angleOf_eq has l hs]
    rfl
  have hAr : A (ix3 r (group has x) (slot has x)) = f (colOf has (group has x) 0 (slot has x)) := by
    rw [hA]
    exact (half_read v 0 _ rfl e4 e6 r _ _).trans (hv _ _ _)
  have hBr : B (ix3 r (group has x) (slot has x)) = f (colOf has (group has x) 1 (slot has x)) := by
    rw [hB]
    exact (half_read v 1 _ rfl e5 e6 r _ _).trans (hv _ _ _)
  unfold turn sideSin
  split
  · next h =>
    show (broadcastInDim _ _ _ _ _ * A _ - broadcastInDim _ _ _ _ _ * B _ : EReal) = _
    rw [spread_read, spread_read, hCr, hSr, hAr, hBr, colOf_group has x 0 h.symm, colOf_mate has l hs x 1 (by rw [h]; rfl),
      if_pos (by rw [← hs]; exact h), sub_eq_add_neg, EReal.neg_mul]
  · next h =>
    show (broadcastInDim _ _ _ _ _ * A _ + broadcastInDim _ _ _ _ _ * B _ : EReal) = _
    have h1 : x.val / s % 2 = 1 := by omega
    rw [spread_read, spread_read, hCr, hSr, hAr, hBr, colOf_group has x 1 h1.symm, colOf_mate has l hs x 0 (by rw [h1]; rfl),
      if_neg (by rw [← hs]; exact h), add_comm]

end Level

variable (V0 : Valuation τ sig (Elt Ideal))

/-- The angles. -/
abbrev table : FVec Ideal ⟨2, ![12, 2048]⟩ .f32 := V0 (Proc.devRef .tc main_arg1)

/-- Row `r` of the argument. -/
abbrev row (r : Fin 128) (x : Fin 4096) : EReal :=
  (show FVec Ideal ⟨3, ![1, 128, 4096]⟩ .bf16 from V0 (Proc.devRef .tc main_arg0)) (ix3 0 r x)

/-- Row `r` after `n` levels. -/
abbrev passed (r : Fin 128) (n : Nat) (hn : n ≤ 12 := by decide) : Fin 4096 → EReal :=
  turned (cosAt (table V0)) (sideSin (table V0)) (row V0 r) n hn

theorem first (r : Fin 128) : Cut (a := 2048) (s := 1) rfl r (res_main_v2 V0) (passed V0 r 0) := fun p b q => by
  refine (cut_read rfl _ _ r p b q).trans ?_
  refine shapeCast_apply (s := ⟨3, ![1, 128, 4096]⟩) (t := ⟨2, ![128, 4096]⟩) _ _ _ (ix3 0 r (colOf rfl p b q)) ?_
  rw [Shape.rowMajor_val_three, Shape.rowMajor_val_two]
  show (0 * 128 + r.val) * 4096 + _ = r.val * 4096 + _
  rw [Nat.zero_mul, Nat.zero_add]
  rfl

theorem after1 (r : Fin 128) : Cut (a := 1024) (s := 2) rfl r (res_main_v30 V0) (passed V0 r 1) := fun p b q =>
  (cut_read rfl _ _ r p b q).trans (level_read rfl 0 rfl (table V0) r _ _ (first V0 r) _ _ rfl
    (hA := rfl) (hB := rfl) (hC := rfl) (hS := rfl))

theorem after2 (r : Fin 128) : Cut (a := 512) (s := 4) rfl r (res_main_v58 V0) (passed V0 r 2) := fun p b q =>
  (cut_read rfl _ _ r p b q).trans (level_read rfl 1 rfl (table V0) r _ _ (after1 V0 r) _ _ rfl
    (hA := rfl) (hB := rfl) (hC := rfl) (hS := rfl))

theorem after3 (r : Fin 128) : Cut (a := 256) (s := 8) rfl r (res_main_v86 V0) (passed V0 r 3) := fun p b q =>
  (cut_read rfl _ _ r p b q).trans (level_read rfl 2 rfl (table V0) r _ _ (after2 V0 r) _ _ rfl
    (hA := rfl) (hB := rfl) (hC := rfl) (hS := rfl))

theorem after4 (r : Fin 128) : Cut (a := 128) (s := 16) rfl r (res_main_v114 V0) (passed V0 r 4) := fun p b q =>
  (cut_read rfl _ _ r p b q).trans (level_read rfl 3 rfl (table V0) r _ _ (after3 V0 r) _ _ rfl
    (hA := rfl) (hB := rfl) (hC := rfl) (hS := rfl))

theorem after5 (r : Fin 128) : Cut (a := 64) (s := 32) rfl r (res_main_v142 V0) (passed V0 r 5) := fun p b q =>
  (cut_read rfl _ _ r p b q).trans (level_read rfl 4 rfl (table V0) r _ _ (after4 V0 r) _ _ rfl
    (hA := rfl) (hB := rfl) (hC := rfl) (hS := rfl))

theorem after6 (r : Fin 128) : Cut (a := 32) (s := 64) rfl r (res_main_v170 V0) (passed V0 r 6) := fun p b q =>
  (cut_read rfl _ _ r p b q).trans (level_read rfl 5 rfl (table V0) r _ _ (after5 V0 r) _ _ rfl
    (hA := rfl) (hB := rfl) (hC := rfl) (hS := rfl))

theorem after7 (r : Fin 128) : Cut (a := 16) (s := 128) rfl r (res_main_v198 V0) (passed V0 r 7) := fun p b q =>
  (cut_read rfl _ _ r p b q).trans (level_read rfl 6 rfl (table V0) r _ _ (after6 V0 r) _ _ rfl
    (hA := rfl) (hB := rfl) (hC := rfl) (hS := rfl))

theorem after8 (r : Fin 128) : Cut (a := 8) (s := 256) rfl r (res_main_v226 V0) (passed V0 r 8) := fun p b q =>
  (cut_read rfl _ _ r p b q).trans (level_read rfl 7 rfl (table V0) r _ _ (after7 V0 r) _ _ rfl
    (hA := rfl) (hB := rfl) (hC := rfl) (hS := rfl))

theorem after9 (r : Fin 128) : Cut (a := 4) (s := 512) rfl r (res_main_v254 V0) (passed V0 r 9) := fun p b q =>
  (cut_read rfl _ _ r p b q).trans (level_read rfl 8 rfl (table V0) r _ _ (after8 V0 r) _ _ rfl
    (hA := rfl) (hB := rfl) (hC := rfl) (hS := rfl))

theorem after10 (r : Fin 128) : Cut (a := 2) (s := 1024) rfl r (res_main_v282 V0) (passed V0 r 10) := fun p b q =>
  (cut_read rfl _ _ r p b q).trans (level_read rfl 9 rfl (table V0) r _ _ (after9 V0 r) _ _ rfl
    (hA := rfl) (hB := rfl) (hC := rfl) (hS := rfl))

theorem after11 (r : Fin 128) : Cut (a := 1) (s := 2048) rfl r (res_main_v310 V0) (passed V0 r 11) := fun p b q =>
  (cut_read rfl _ _ r p b q).trans (level_read rfl 10 rfl (table V0) r _ _ (after10 V0 r) _ _ rfl
    (hA := rfl) (hB := rfl) (hC := rfl) (hS := rfl))

/-- The result, element by element. -/
theorem result_apply (r : Fin 128) (x : Fin 4096) :
    (truncf .bf16 (shapeCast _ (concatenate S128x1x2x2048 2 [⟨S128x1x1x2048, (broadcastInDim S128x1x1x2048 ![0, 1, 3] bcast_S128x1x2048_S128x1x1x2048_0_1_3 (subf (mulf (broadcastInDim S128x1x2048 ![0, 1, 2] bcast_S1x1x2048_S128x1x2048_0_1_2 (broadcastInDim S1x1x2048 ![1, 2] bcast_S1x2048_S1x1x2048_1_2 (res_main_v318 V0))) (res_main_v312 V0)) (mulf (broadcastInDim S128x1x2048 ![0, 1, 2] bcast_S1x1x2048_S128x1x2048_0_1_2 (broadcastInDim S1x1x2048 ![1, 2] bcast_S1x2048_S1x1x2048_1_2 (res_main_v319 V0))) (res_main_v314 V0))))⟩, ⟨S128x1x1x2048, (broadcastInDim S128x1x1x2048 ![0, 1, 3] bcast_S128x1x2048_S128x1x1x2048_0_1_3 (addf (mulf (broadcastInDim S128x1x2048 ![0, 1, 2] bcast_S1x1x2048_S128x1x2048_0_1_2 (broadcastInDim S1x1x2048 ![1, 2] bcast_S1x2048_S1x1x2048_1_2 (res_main_v319 V0))) (res_main_v312 V0)) (mulf (broadcastInDim S128x1x2048 ![0, 1, 2] bcast_S1x1x2048_S128x1x2048_0_1_2 (broadcastInDim S1x1x2048 ![1, 2] bcast_S1x2048_S1x1x2048_1_2 (res_main_v318 V0))) (res_main_v314 V0))))⟩] concatenates_S128x1x1x2048_S128x1x1x2048_S128x1x2x2048_d2) shapeCasts_S128x1x2x2048_S128x4096) bitsLt_bf16_f32 : FVec Ideal S128x4096 .bf16) (ix2 r x) = rotated (table V0) (row V0 r) x :=
  level_read rfl 11 rfl (table V0) r _ _ (after11 V0 r) x _ rfl (hA := rfl) (hB := rfl) (hC := rfl) (hS := rfl)

end Cert.RotateReferenceIdeal.Hand

end
-- ==== Proof.RotateClaims.lean ====
/- Hand-written, untrusted. The claims about the rotation, one by one. -/
module

public import proofs.«01_k».proof.Defs
public import proofs.«01_k».proof.Proof.Gen.Rotate.Frame
public import proofs.«01_k».proof.Proof.RotateArray
public import proofs.«01_k».proof.Proof.RotateTables
public import proofs.«01_k».proof.Proof.RotateRef
public import Idealize.ShloMosaic.Lib.Bf16PairInverse
public import Idealize.ShloMosaic.Lib.Quiescent

@[expose] public section

noncomputable section

namespace Cert.Proof

open Idealize.ShloMosaic Idealize.ShloMosaic.TcCoe Idealize.SL.Sem
open Cert.Hand

/-- The rotation kernel's frame. -/
theorem rotate_frame_p : Cert.quiescent_Rotate := fun m ρ _ => Cert.Rotate.Gen.frame m ρ

/-- The idealised rotation kernel's frame. -/
theorem rotate_frame_pi : Cert.quiescent_RotateIdeal := fun m ρ _ => Cert.RotateIdeal.Gen.frame m ρ

/-- The idealised reference's frame. -/
theorem rotate_frame_ri : Cert.quiescent_RotateReferenceIdeal := fun m ρ _ =>
  (θ_run Cert.RotateReferenceIdeal.defs _ _).mono (fun r h => ⟨fun c => (h c).2,
      Idealize.ShloMosaic.sem_eq_zero_of_no_sems (by decide) r.2⟩)
    (Cert.RotateReferenceIdeal.Value.run (F := Ideal) m ρ)

/-- The four rewrites of the ideal pass: two buffers of words read as pairs, and words read as pairs at two shapes. -/
theorem rotate_preserves : Cert.preserves_Rotate_RotateIdeal :=
  open Cert.RotateIdeal IdealRules.bf16_pair in
  ⟨bufferStatement S64x2x4096 S64x1x4096, bufferStatement S8x2x4096 S8x1x4096, statement S16x128 S8x128,
    statement S8x2x128 S8x1x128⟩

/-- The result both programs end with: every row of `x`, rotated. -/
def rotation (x : Vec Ideal ⟨3, ![1, 128, 4096]⟩ .bf16) (θ : Vec Ideal ⟨2, ![12, 2048]⟩ .f32) : Vec Ideal ⟨2, ![128, 4096]⟩ .bf16 :=
  fun i => rotated θ (fun y => x (ix3 0 (i 0) y)) (i 1)

/-- What the kernel leaves is the rotation. -/
theorem rotate_kernel (m : (ℓ : Loc Cert.RotateIdeal.nD Cert.RotateIdeal.τ Cert.RotateIdeal.sig) → Buf (Elt Ideal) ℓ)
    (c : Dev Cert.RotateIdeal.nD) :
    Cert.RotateIdeal.Hand.result (Cert.RotateIdeal.Gen.V m c Cert.RotateIdeal.main_v146)
        (Cert.RotateIdeal.Gen.V m c Cert.RotateIdeal.main_v132) (Cert.RotateIdeal.Gen.V m c Cert.RotateIdeal.main_v145)
      = rotation (m ((c.tc : Thread Cert.RotateIdeal.nD Cert.RotateIdeal.τ).loc Cert.RotateIdeal.main_arg0))
        (m ((c.tc : Thread Cert.RotateIdeal.nD Cert.RotateIdeal.τ).loc Cert.RotateIdeal.main_arg1)) := by
  have hc : (fun l y => Cert.RotateIdeal.Gen.V m c Cert.RotateIdeal.main_v132 (ix2 l y)) = _ :=
    funext fun l => funext fun y => Cert.RotateIdeal.Hand.cos_table m c l y
  have hs : (fun l y => Cert.RotateIdeal.Gen.V m c Cert.RotateIdeal.main_v145 (ix2 l y)) = _ :=
    funext fun l => funext fun y => Cert.RotateIdeal.Hand.sin_table m c l y
  funext i
  unfold Cert.RotateIdeal.Hand.result rotation rotated
  have hx : (fun y => Cert.RotateIdeal.Gen.V m c Cert.RotateIdeal.main_v146 (ix2 (i 0) y)) = _ :=
    funext fun y => Cert.RotateIdeal.Hand.rows_read m c (i 0) y
  rw [hc, hs, hx]

/-- The value claim: both programs end with the same result. -/
theorem rotate_algebraic : Cert.algebraic_RotateIdeal_RotateReferenceIdeal := fun m ρ m' ρ' _ hargs =>
  ⟨fun c => rotation (m ((c.tc : Thread Cert.RotateIdeal.nD Cert.RotateIdeal.τ).loc Cert.RotateIdeal.main_arg0))
      (m ((c.tc : Thread Cert.RotateIdeal.nD Cert.RotateIdeal.τ).loc Cert.RotateIdeal.main_arg1)),
    (θ_run Cert.RotateIdeal.defs _ _).mono (fun _ h c =>
        ⟨(h.2.out_eq c 3).trans ((Cert.RotateIdeal.Hand.final m c).trans (rotate_kernel m c)), h.1 c⟩)
      (θ_run_and (Cert.RotateIdeal.Gen.unchanged m ρ) (Cert.RotateIdeal.Gen.run_main m ρ)),
    (θ_run Cert.RotateReferenceIdeal.defs _ _).mono (fun r h c => ⟨(h c).1.trans (by
        obtain ⟨h0, h1⟩ := hargs c
        funext i
        obtain ⟨r, x, rfl⟩ : ∃ (r : Fin 128) (x : Fin 4096), i = ix2 r x := ⟨i 0, i 1, eq_ix2 i⟩
        refine (Cert.RotateReferenceIdeal.Hand.result_apply (StableHlo.launchContents m' c) r x).trans ?_
        exact congrArg₂ (fun (θ : Vec Ideal ⟨2, ![12, 2048]⟩ .f32) (f : Fin 4096 → EReal) => rotated θ f x) h1
          (funext fun y => congrFun h0 (ix3 0 r y))), (h c).2⟩)
      (Cert.RotateReferenceIdeal.Value.run (F := Ideal) m' ρ')⟩

end Cert.Proof

end
-- ==== Proof.lean ====
/- Hand-written, untrusted. The certificate's claim, put together from the claims about the product (Proof/Claims.lean), those
   about the rotation (Proof/RotateClaims.lean) and the generated witnesses of the facts the six programs state. -/
module

public import proofs.«01_k».proof.Defs
public import proofs.«01_k».proof.Proof.Claims
public import proofs.«01_k».proof.Proof.RotateClaims
public import proofs.«01_k».proof.Proof.Gen.Rotate.Frame
public import proofs.«01_k».proof.Proof.Gen.RotateIdeal.Frame
public import proofs.«01_k».proof.Proof.Gen.RotateReferenceIdeal
public import proofs.«01_k».proof.Proof.Gen.RotateReferenceIdeal.Run

@[expose] public section

namespace Cert.Proof

theorem claim : Cert.Claim :=
  ⟨Cert.Kernel.Gen.facts, Cert.KernelIdeal.Gen.facts, Cert.ReferenceIdeal.Gen.facts,
    Cert.Rotate.Gen.facts, Cert.RotateIdeal.Gen.facts, Cert.RotateReferenceIdeal.Gen.facts, frame_p, frame_pi, frame_ri,
    rotate_frame_p, rotate_frame_pi, rotate_frame_ri, preserves, algebraic, rotate_preserves, rotate_algebraic⟩

end Cert.Proof
